-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 2048, 16, 64]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 2048, 16, 64]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bitsLt_bf16_f32 : FTy.bits .bf16 < FTy.bits .f32
  bcast_S_S16x1x16x64 : S_.BroadcastsInDim S16x1x16x64 (![] : Fin 0 → Fin S16x1x16x64.rank)
  bcast_S_S16x1024x16x64 : S_.BroadcastsInDim S16x1024x16x64 (![] : Fin 0 → Fin S16x1024x16x64.rank)

variable [Facts]

def fn {F : FTy → Type} [FloatOps F] (main_arg0 : FVec F S16x1x16x64 .bf16) (main_arg1 : FVec F S16x1024x16x64 .bf16) (main_arg2 : FVec F S16x1024x16x64 .bf16) : IVec S16x1x16x64 1 × IVec S16x1024x16x64 1 :=
  let main_v0 : FVec F S16x1x16x64 .f32 := (extf .f32 · bitsLt_bf16_f32) main_arg0
  let main_v1 : FVec F S16x1024x16x64 .f32 := (extf .f32 · bitsLt_bf16_f32) main_arg1
  let main_v2 : FVec F S16x1x16x64 .f32 := Host.absf main_v0
  let main_cst : FVec F S_ .f32 := constant S_ .f32 0x7F800000#32
  let main_v3 : FVec F S16x1x16x64 .f32 := broadcastInDim S16x1x16x64 ![] bcast_S_S16x1x16x64 main_cst
  let main_v4 : IVec S16x1x16x64 1 := cmpf .olt main_v2 main_v3
  let main_v5 : FVec F S16x1024x16x64 .f32 := Host.absf main_v1
  let main_cst_0 : FVec F S_ .f32 := constant S_ .f32 0x7F800000#32
  let main_v6 : FVec F S16x1024x16x64 .f32 := broadcastInDim S16x1024x16x64 ![] bcast_S_S16x1024x16x64 main_cst_0
  let main_v7 : IVec S16x1024x16x64 1 := cmpf .olt main_v5 main_v6
  (main_v4, main_v7)
-- ==== Pre_finite_ReferenceIdeal.lean ====
abbrev S16x1x16x64 : Shape := ⟨4, ![16, 1, 16, 64]⟩
abbrev S16x2048x16x64 : Shape := ⟨4, ![16, 2048, 16, 64]⟩
abbrev S_ : Shape := ⟨0, ![]⟩

class Facts : Prop where
  bitsLt_bf16_f32 : FTy.bits .bf16 < FTy.bits .f32
  bcast_S_S16x1x16x64 : S_.BroadcastsInDim S16x1x16x64 (![] : Fin 0 → Fin S16x1x16x64.rank)
  bcast_S_S16x2048x16x64 : S_.BroadcastsInDim S16x2048x16x64 (![] : Fin 0 → Fin S16x2048x16x64.rank)

variable [Facts]

def fn {F : FTy → Type} [FloatOps F] (main_arg0 : FVec F S16x1x16x64 .bf16) (main_arg1 : FVec F S16x2048x16x64 .bf16) (main_arg2 : FVec F S16x2048x16x64 .bf16) : IVec S16x1x16x64 1 × IVec S16x2048x16x64 1 :=
  let main_v0 : FVec F S16x1x16x64 .f32 := (extf .f32 · bitsLt_bf16_f32) main_arg0
  let main_v1 : FVec F S16x2048x16x64 .f32 := (extf .f32 · bitsLt_bf16_f32) main_arg1
  let main_v2 : FVec F S16x1x16x64 .f32 := Host.absf main_v0
  let main_cst : FVec F S_ .f32 := constant S_ .f32 0x7F800000#32
  let main_v3 : FVec F S16x1x16x64 .f32 := broadcastInDim S16x1x16x64 ![] bcast_S_S16x1x16x64 main_cst
  let main_v4 : IVec S16x1x16x64 1 := cmpf .olt main_v2 main_v3
  let main_v5 : FVec F S16x2048x16x64 .f32 := Host.absf main_v1
  let main_cst_0 : FVec F S_ .f32 := constant S_ .f32 0x7F800000#32
  let main_v6 : FVec F S16x2048x16x64 .f32 := broadcastInDim S16x2048x16x64 ![] bcast_S_S16x2048x16x64 main_cst_0
  let main_v7 : IVec S16x2048x16x64 1 := cmpf .olt main_v5 main_v6
  (main_v4, main_v7)
-- ==== Kernel.lean ====
abbrev S16x1x16x64 : Shape := ⟨4, ![16, 1, 16, 64]⟩
abbrev S16x1024x16x64 : Shape := ⟨4, ![16, 1024, 16, 64]⟩
abbrev S_ : Shape := ⟨0, ![]⟩
abbrev S16x128x16x64 : Shape := ⟨4, ![16, 128, 16, 64]⟩
abbrev S16x128x1024 : Shape := ⟨3, ![16, 128, 1024]⟩
abbrev S1x1x16x64 : Shape := ⟨4, ![1, 1, 16, 64]⟩
abbrev S1x128x1024 : Shape := ⟨3, ![1, 128, 1024]⟩
abbrev S16x16x64 : Shape := ⟨3, ![16, 16, 64]⟩
abbrev S16x16x1 : Shape := ⟨3, ![16, 16, 1]⟩
abbrev S4x16x16x64 : Shape := ⟨4, ![4, 16, 16, 64]⟩
abbrev S4x16x16x1 : Shape := ⟨4, ![4, 16, 16, 1]⟩
abbrev S3 : Shape := ⟨1, ![3]⟩
abbrev S12 : Shape := ⟨1, ![12]⟩
abbrev S16x64 : Shape := ⟨2, ![16, 64]⟩
abbrev S64x16 : Shape := ⟨2, ![64, 16]⟩
abbrev S16x64x16 : Shape := ⟨3, ![16, 64, 16]⟩
abbrev S1x64x16 : Shape := ⟨3, ![1, 64, 16]⟩
abbrev S1024x16 : Shape := ⟨2, ![1024, 16]⟩
abbrev S128x1024 : Shape := ⟨2, ![128, 1024]⟩
abbrev S128x16 : Shape := ⟨2, ![128, 16]⟩
abbrev S16 : Shape := ⟨1, ![16]⟩
abbrev S1x16 : Shape := ⟨2, ![1, 16]⟩
abbrev S16x128 : Shape := ⟨2, ![16, 128]⟩
abbrev S16x1024 : Shape := ⟨2, ![16, 1024]⟩
abbrev S1x16x64 : Shape := ⟨3, ![1, 16, 64]⟩
abbrev S16x1 : Shape := ⟨2, ![16, 1]⟩
abbrev S1x16x1 : Shape := ⟨3, ![1, 16, 1]⟩
abbrev S1 : Shape := ⟨1, ![1]⟩
abbrev S1x16x16x64 : Shape := ⟨4, ![1, 16, 16, 64]⟩
abbrev S1x16x16x1 : Shape := ⟨4, ![1, 16, 16, 1]⟩

abbrev nBuf : Space → Nat
  | .hbm => 41
  | .vmem => 13
  | .smem => 0
  | _ => 0

abbrev bufTy : (tb : Table) → Fin (tcTables nBuf tb) → BufTy
  | .hbm, ⟨0, _⟩ => ⟨S16x1x16x64, .bf16⟩
  | .hbm, ⟨1, _⟩ => ⟨S16x1024x16x64, .bf16⟩
  | .hbm, ⟨2, _⟩ => ⟨S16x1024x16x64, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S16x128x16x64, .bf16⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S16x128x16x64, .bf16⟩
  | .hbm, ⟨38, _⟩ => ⟨S16x128x1024, .bf16⟩
  | .hbm, ⟨39, _⟩ => ⟨S16x128x1024, .bf16⟩
  | .hbm, ⟨40, _⟩ => ⟨S16x1x16x64, .f32⟩
  | .local _ .vmem, ⟨0, _⟩ => ⟨S1x1x16x64, .bf16⟩
  | .local _ .vmem, ⟨1, _⟩ => ⟨S1x1x16x64, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S16x1x16x64, .f32⟩
  | .local _ .vmem, ⟨7, _⟩ => ⟨S16x16x64, .f32⟩
  | .local _ .vmem, ⟨8, _⟩ => ⟨S16x16x1, .f32⟩
  | .local _ .vmem, ⟨9, _⟩ => ⟨S16x16x1, .f32⟩
  | .local _ .vmem, ⟨10, _⟩ => ⟨S4x16x16x64, .f32⟩
  | .local _ .vmem, ⟨11, _⟩ => ⟨S4x16x16x1, .f32⟩
  | .local _ .vmem, ⟨12, _⟩ => ⟨S4x16x16x1, .f32⟩
  | _, _ => ⟨S16x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_c_2 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_c_5 : Ref sig .tc := ⟨.hbm, 20, rfl⟩
abbrev main_v12 : Ref sig .tc := ⟨.hbm, 21, rfl⟩
abbrev main_c_6 : Ref sig .tc := ⟨.hbm, 22, rfl⟩
abbrev main_v13 : Ref sig .tc := ⟨.hbm, 23, rfl⟩
abbrev main_v14 : Ref sig .tc := ⟨.hbm, 24, rfl⟩
abbrev main_c_7 : Ref sig .tc := ⟨.hbm, 25, rfl⟩
abbrev main_c_8 : Ref sig .tc := ⟨.hbm, 26, rfl⟩
abbrev main_c_9 : Ref sig .tc := ⟨.hbm, 27, rfl⟩
abbrev main_v15 : Ref sig .tc := ⟨.hbm, 28, rfl⟩
abbrev main_c_10 : Ref sig .tc := ⟨.hbm, 29, rfl⟩
abbrev main_v16 : Ref sig .tc := ⟨.hbm, 30, rfl⟩
abbrev main_c_11 : Ref sig .tc := ⟨.hbm, 31, rfl⟩
abbrev main_v17 : Ref sig .tc := ⟨.hbm, 32, rfl⟩
abbrev main_v18 : Ref sig .tc := ⟨.hbm, 33, rfl⟩
abbrev main_c_12 : Ref sig .tc := ⟨.hbm, 34, rfl⟩
abbrev main_c_13 : Ref sig .tc := ⟨.hbm, 35, rfl⟩
abbrev main_c_14 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 16
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_6 : BitVec 32 := 0#32
  let v15 : BitVec 1 := Scalar.cmpi .ne v14 c0_i32_6
  v15

def k0_dev1 (d0 : Dev nD) : Nat :=
  let c0_i32_30 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_29 : BitVec 32 := 8#32
  let v80 : BitVec 32 := Scalar.muli v9 c8_i32_29
  let v81 : BitVec 32 := Scalar.addi c0_i32_30 v80
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v82 : BitVec 32 := Scalar.muli v5 c4_i32_31
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v84 : BitVec 32 := Scalar.muli v8 c1_i32_32
  let v85 : BitVec 32 := Scalar.addi v83 v84
  v85.toNat
def k0_dev2 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v86 : BitVec 32 := Scalar.muli v2 c8_i32_34
  let v87 : BitVec 32 := Scalar.addi c0_i32_35 v86
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_36 : BitVec 32 := 4#32
  let v88 : BitVec 32 := Scalar.muli v10 c4_i32_36
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v90 : BitVec 32 := Scalar.muli v8 c1_i32_37
  let v91 : BitVec 32 := Scalar.addi v89 v90
  v91.toNat
def k0_dev3 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v92 : BitVec 32 := Scalar.muli v2 c8_i32_39
  let v93 : BitVec 32 := Scalar.addi c0_i32_40 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v94 : BitVec 32 := Scalar.muli v5 c4_i32_41
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_42 : BitVec 32 := 1#32
  let v96 : BitVec 32 := Scalar.muli v11 c1_i32_42
  let v97 : BitVec 32 := Scalar.addi v95 v96
  v97.toNat
def k0_dev4 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v98 : BitVec 32 := Scalar.muli v2 c8_i32_44
  let v99 : BitVec 32 := Scalar.addi c0_i32_45 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_46 : BitVec 32 := 4#32
  let v100 : BitVec 32 := Scalar.muli v5 c4_i32_46
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v12 : BitVec 32 := Scalar.xori v8 c2_i32_5
  let c1_i32_47 : BitVec 32 := 1#32
  let v102 : BitVec 32 := Scalar.muli v12 c1_i32_47
  let v103 : BitVec 32 := Scalar.addi v101 v102
  v103.toNat
def k0_off1 (i : grid0.Coords) : Fin 3 → Nat :=
  let arg0 : BitVec 32 := BitVec.ofNat 32 (i 0).val
  let v60 : Index := Scalar.indexCast arg0
  let c0_21 : Index := 0#32
  let c0_22 : Index := 0#32
  ![v60.toNat, 0, 0]
def k0_off2 (i : grid0.Coords) : Fin 3 → Nat :=
  let arg0 : BitVec 32 := BitVec.ofNat 32 (i 0).val
  let v66 : Index := Scalar.indexCast arg0
  let c0_23 : Index := 0#32
  let c0_24 : Index := 0#32
  ![v66.toNat, 0, 0]
def k0_cond2 (i : grid0.Coords) : BitVec 1 :=
  let arg0 : BitVec 32 := BitVec.ofNat 32 (i 0).val
  let c15_i32 : BitVec 32 := 15#32
  let v76 : BitVec 1 := Scalar.cmpi .eq arg0 c15_i32
  let v77 : BitVec 32 := Scalar.extui v76
  let c0_i32_27 : BitVec 32 := 0#32
  let v78 : BitVec 1 := Scalar.cmpi .ne v77 c0_i32_27
  v78

def k0_dev5 (d0 : Dev nD) : Nat :=
  let c0_i32_32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_31 : BitVec 32 := 8#32
  let v79 : BitVec 32 := Scalar.muli v9 c8_i32_31
  let v80 : BitVec 32 := Scalar.addi c0_i32_32 v79
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v81 : BitVec 32 := Scalar.muli v5 c4_i32_33
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v83 : BitVec 32 := Scalar.muli v8 c1_i32_34
  let v84 : BitVec 32 := Scalar.addi v82 v83
  v84.toNat
def k0_dev6 (d0 : Dev nD) : Nat :=
  let c0_i32_42 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_41 : BitVec 32 := 8#32
  let v91 : BitVec 32 := Scalar.muli v9 c8_i32_41
  let v92 : BitVec 32 := Scalar.addi c0_i32_42 v91
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v93 : BitVec 32 := Scalar.muli v5 c4_i32_43
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v95 : BitVec 32 := Scalar.muli v8 c1_i32_44
  let v96 : BitVec 32 := Scalar.addi v94 v95
  v96.toNat
def k0_dev7 (d0 : Dev nD) : Nat :=
  let c0_i32_52 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_51 : BitVec 32 := 8#32
  let v103 : BitVec 32 := Scalar.muli v9 c8_i32_51
  let v104 : BitVec 32 := Scalar.addi c0_i32_52 v103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_53 : BitVec 32 := 4#32
  let v105 : BitVec 32 := Scalar.muli v5 c4_i32_53
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v107 : BitVec 32 := Scalar.muli v8 c1_i32_54
  let v108 : BitVec 32 := Scalar.addi v106 v107
  v108.toNat
def k0_dev8 (d0 : Dev nD) : Nat :=
  let c0_i32_142 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_141 : BitVec 32 := 8#32
  let v188 : BitVec 32 := Scalar.muli v2 c8_i32_141
  let v189 : BitVec 32 := Scalar.addi c0_i32_142 v188
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_143 : BitVec 32 := 4#32
  let v190 : BitVec 32 := Scalar.muli v10 c4_i32_143
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v192 : BitVec 32 := Scalar.muli v8 c1_i32_144
  let v193 : BitVec 32 := Scalar.addi v191 v192
  v193.toNat
def k0_dev9 (d0 : Dev nD) : Nat :=
  let c0_i32_152 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_151 : BitVec 32 := 8#32
  let v200 : BitVec 32 := Scalar.muli v2 c8_i32_151
  let v201 : BitVec 32 := Scalar.addi c0_i32_152 v200
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_153 : BitVec 32 := 4#32
  let v202 : BitVec 32 := Scalar.muli v10 c4_i32_153
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v204 : BitVec 32 := Scalar.muli v8 c1_i32_154
  let v205 : BitVec 32 := Scalar.addi v203 v204
  v205.toNat
def k0_dev10 (d0 : Dev nD) : Nat :=
  let c0_i32_161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_160 : BitVec 32 := 8#32
  let v212 : BitVec 32 := Scalar.muli v2 c8_i32_160
  let v213 : BitVec 32 := Scalar.addi c0_i32_161 v212
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_162 : BitVec 32 := 4#32
  let v214 : BitVec 32 := Scalar.muli v10 c4_i32_162
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v216 : BitVec 32 := Scalar.muli v8 c1_i32_163
  let v217 : BitVec 32 := Scalar.addi v215 v216
  v217.toNat
def k0_dev11 (d0 : Dev nD) : Nat :=
  let c0_i32_250 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_249 : BitVec 32 := 8#32
  let v297 : BitVec 32 := Scalar.muli v2 c8_i32_249
  let v298 : BitVec 32 := Scalar.addi c0_i32_250 v297
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_251 : BitVec 32 := 4#32
  let v299 : BitVec 32 := Scalar.muli v5 c4_i32_251
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_252 : BitVec 32 := 1#32
  let v301 : BitVec 32 := Scalar.muli v11 c1_i32_252
  let v302 : BitVec 32 := Scalar.addi v300 v301
  v302.toNat
def k0_dev12 (d0 : Dev nD) : Nat :=
  let c0_i32_259 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_258 : BitVec 32 := 8#32
  let v309 : BitVec 32 := Scalar.muli v2 c8_i32_258
  let v310 : BitVec 32 := Scalar.addi c0_i32_259 v309
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_260 : BitVec 32 := 4#32
  let v311 : BitVec 32 := Scalar.muli v5 c4_i32_260
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_261 : BitVec 32 := 1#32
  let v313 : BitVec 32 := Scalar.muli v11 c1_i32_261
  let v314 : BitVec 32 := Scalar.addi v312 v313
  v314.toNat
def k0_dev13 (d0 : Dev nD) : Nat :=
  let c0_i32_269 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_268 : BitVec 32 := 8#32
  let v321 : BitVec 32 := Scalar.muli v2 c8_i32_268
  let v322 : BitVec 32 := Scalar.addi c0_i32_269 v321
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_270 : BitVec 32 := 4#32
  let v323 : BitVec 32 := Scalar.muli v5 c4_i32_270
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_271 : BitVec 32 := 1#32
  let v325 : BitVec 32 := Scalar.muli v11 c1_i32_271
  let v326 : BitVec 32 := Scalar.addi v324 v325
  v326.toNat
def k0_dev14 (d0 : Dev nD) : Nat :=
  let c0_i32_358 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_357 : BitVec 32 := 8#32
  let v406 : BitVec 32 := Scalar.muli v2 c8_i32_357
  let v407 : BitVec 32 := Scalar.addi c0_i32_358 v406
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_359 : BitVec 32 := 4#32
  let v408 : BitVec 32 := Scalar.muli v5 c4_i32_359
  let v409 : BitVec 32 := Scalar.addi v407 v408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v12 : BitVec 32 := Scalar.xori v8 c2_i32_5
  let c1_i32_360 : BitVec 32 := 1#32
  let v410 : BitVec 32 := Scalar.muli v12 c1_i32_360
  let v411 : BitVec 32 := Scalar.addi v409 v410
  v411.toNat
def k0_dev15 (d0 : Dev nD) : Nat :=
  let c0_i32_367 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_366 : BitVec 32 := 8#32
  let v418 : BitVec 32 := Scalar.muli v2 c8_i32_366
  let v419 : BitVec 32 := Scalar.addi c0_i32_367 v418
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_368 : BitVec 32 := 4#32
  let v420 : BitVec 32 := Scalar.muli v5 c4_i32_368
  let v421 : BitVec 32 := Scalar.addi v419 v420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v12 : BitVec 32 := Scalar.xori v8 c2_i32_5
  let c1_i32_369 : BitVec 32 := 1#32
  let v422 : BitVec 32 := Scalar.muli v12 c1_i32_369
  let v423 : BitVec 32 := Scalar.addi v421 v422
  v423.toNat
def k0_dev16 (d0 : Dev nD) : Nat :=
  let c0_i32_376 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_375 : BitVec 32 := 8#32
  let v430 : BitVec 32 := Scalar.muli v2 c8_i32_375
  let v431 : BitVec 32 := Scalar.addi c0_i32_376 v430
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_377 : BitVec 32 := 4#32
  let v432 : BitVec 32 := Scalar.muli v5 c4_i32_377
  let v433 : BitVec 32 := Scalar.addi v431 v432
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v12 : BitVec 32 := Scalar.xori v8 c2_i32_5
  let c1_i32_378 : BitVec 32 := 1#32
  let v434 : BitVec 32 := Scalar.muli v12 c1_i32_378
  let v435 : BitVec 32 := Scalar.addi v433 v434
  v435.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x1x16x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x1x16x64 : Shape := ⟨4, ![16, 1, 16, 64]⟩
abbrev S16x2048x16x64 : Shape := ⟨4, ![16, 2048, 16, 64]⟩
abbrev S16x16x1x2048 : Shape := ⟨4, ![16, 16, 1, 2048]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x1x16x64, .bf16⟩
  | .hbm, ⟨1, _⟩ => ⟨S16x2048x16x64, .bf16⟩
  | .hbm, ⟨2, _⟩ => ⟨S16x2048x16x64, .bf16⟩
  | .hbm, ⟨3, _⟩ => ⟨S16x1x16x64, .f32⟩
  | .hbm, ⟨4, _⟩ => ⟨S16x2048x16x64, .f32⟩
  | .hbm, ⟨5, _⟩ => ⟨S16x2048x16x64, .f32⟩
  | .hbm, ⟨6, _⟩ => ⟨S16x16x1x2048, .f32⟩
  | .hbm, ⟨7, _⟩ => ⟨S_, .f32⟩
  | .hbm, ⟨8, _⟩ => ⟨S16x16x1x2048, .f32⟩
  | .hbm, ⟨9, _⟩ => ⟨S16x16x1x2048, .f32⟩
  | .hbm, ⟨10, _⟩ => ⟨S_, .f32⟩
  | .hbm, ⟨11, _⟩ => ⟨S16x16x1, .f32⟩
  | .hbm, ⟨12, _⟩ => ⟨S16x16x1x1, .f32⟩
  | .hbm, ⟨13, _⟩ => ⟨S16x16x1x2048, .f32⟩
  | .hbm, ⟨14, _⟩ => ⟨S16x16x1x2048, .f32⟩
  | .hbm, ⟨15, _⟩ => ⟨S16x16x1x2048, .f32⟩
  | .hbm, ⟨16, _⟩ => ⟨S_, .f32⟩
  | .hbm, ⟨17, _⟩ => ⟨S16x16x1, .f32⟩
  | .hbm, ⟨18, _⟩ => ⟨S16x16x1x1, .f32⟩
  | .hbm, ⟨19, _⟩ => ⟨S16x16x1x2048, .f32⟩
  | .hbm, ⟨20, _⟩ => ⟨S16x16x1x2048, .f32⟩
  | .hbm, ⟨21, _⟩ => ⟨S16x16x64x1, .f32⟩
  | .hbm, ⟨22, _⟩ => ⟨S16x1x16x64, .f32⟩
  | _, _ => ⟨S16x1x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Protocol.lean ====
/- The exchange protocol of the kernel's last grid point, as a schedule of rounds.

   Four stages, one per bit of the device number.  In stage `s` every device `c` copies its running triple (weighted
   values, maximum, sum) into slab `s` of the receive buffers of its partner `pr s c`, and waits for the partner's copy.

   * the barrier cell of `c`: one round of four units, one from each partner; unit `s` hands `c` slab `s` of its
     partner's receive buffers and the fact that the partner's three receive cells of that stage are open;
   * the send cell `i` of `c` (one per component of the triple): round `s` is the copy of stage `s`; it hands the source
     back, still holding the triple of stage `s`;
   * the receive cell `(s, i)` of `c`: one round, paid by the partner's copy; it hands slab `s` back, holding component
     `i` of the partner's triple of stage `s`. -/
module

public import proofs.«01_k».proof.Proof.Gen.KernelIdeal
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.PureOps

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

/-- The pipeline's rounds and the exchange's rounds. -/
abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

/-! ## Partners -/

/-- The bit of the device number that stage `s` flips. -/
abbrev bit : Fin 4 → ℕ := fun | 0 => 8 | 1 => 4 | 2 => 1 | 3 => 2

/-- The device stage `s` exchanges with. -/
def pr (s : Fin 4) (c : Dev nD) : Dev nD := ⟨Nat.xor c.val (bit s) % 16, Nat.mod_lt _ (by decide)⟩

theorem pr_pr (s : Fin 4) (c : Dev nD) : pr s (pr s c) = c := by revert s c; decide
theorem pr_ne (s : Fin 4) (c : Dev nD) : pr s c ≠ c := by revert s c; decide
theorem pr_inj (s s' : Fin 4) (c : Dev nD) (h : pr s c = pr s' c) : s = s' := by revert s s' c h; decide

theorem dev1_eq (c : Dev nD) (h : k0_dev1 c < nD) : (⟨k0_dev1 c, h⟩ : Dev nD) = pr 0 c := by revert h; revert c; decide
theorem dev2_eq (c : Dev nD) (h : k0_dev2 c < nD) : (⟨k0_dev2 c, h⟩ : Dev nD) = pr 1 c := by revert h; revert c; decide
theorem dev3_eq (c : Dev nD) (h : k0_dev3 c < nD) : (⟨k0_dev3 c, h⟩ : Dev nD) = pr 2 c := by revert h; revert c; decide
theorem dev4_eq (c : Dev nD) (h : k0_dev4 c < nD) : (⟨k0_dev4 c, h⟩ : Dev nD) = pr 3 c := by revert h; revert c; decide
theorem dev5_eq (c : Dev nD) (h : k0_dev5 c < nD) : (⟨k0_dev5 c, h⟩ : Dev nD) = pr 0 c := by revert h; revert c; decide
theorem dev6_eq (c : Dev nD) (h : k0_dev6 c < nD) : (⟨k0_dev6 c, h⟩ : Dev nD) = pr 0 c := by revert h; revert c; decide
theorem dev7_eq (c : Dev nD) (h : k0_dev7 c < nD) : (⟨k0_dev7 c, h⟩ : Dev nD) = pr 0 c := by revert h; revert c; decide
theorem dev8_eq (c : Dev nD) (h : k0_dev8 c < nD) : (⟨k0_dev8 c, h⟩ : Dev nD) = pr 1 c := by revert h; revert c; decide
theorem dev9_eq (c : Dev nD) (h : k0_dev9 c < nD) : (⟨k0_dev9 c, h⟩ : Dev nD) = pr 1 c := by revert h; revert c; decide
theorem dev10_eq (c : Dev nD) (h : k0_dev10 c < nD) : (⟨k0_dev10 c, h⟩ : Dev nD) = pr 1 c := by revert h; revert c; decide
theorem dev11_eq (c : Dev nD) (h : k0_dev11 c < nD) : (⟨k0_dev11 c, h⟩ : Dev nD) = pr 2 c := by revert h; revert c; decide
theorem dev12_eq (c : Dev nD) (h : k0_dev12 c < nD) : (⟨k0_dev12 c, h⟩ : Dev nD) = pr 2 c := by revert h; revert c; decide
theorem dev13_eq (c : Dev nD) (h : k0_dev13 c < nD) : (⟨k0_dev13 c, h⟩ : Dev nD) = pr 2 c := by revert h; revert c; decide
theorem dev14_eq (c : Dev nD) (h : k0_dev14 c < nD) : (⟨k0_dev14 c, h⟩ : Dev nD) = pr 3 c := by revert h; revert c; decide
theorem dev15_eq (c : Dev nD) (h : k0_dev15 c < nD) : (⟨k0_dev15 c, h⟩ : Dev nD) = pr 3 c := by revert h; revert c; decide
theorem dev16_eq (c : Dev nD) (h : k0_dev16 c < nD) : (⟨k0_dev16 c, h⟩ : Dev nD) = pr 3 c := by revert h; revert c; decide

/-! ## The triple: component 0 the weighted values, 1 the maximum, 2 the sum -/

/-- The shape of component `i`. -/
abbrev shp : Fin 3 → Shape := fun | 0 => S16x16x64 | 1 => S16x16x1 | 2 => S16x16x1

variable (F) in
/-- A running triple. -/
abbrev Trip : Type := (i : Fin 3) → Vec F (shp i) .f32

/-- The maximum of the two triples' maxima. -/
def mxOf (a b : Trip F) : FVec F S16x16x1 .f32 := maximumf (a 1) (b 1)
/-- The factor by which a triple's values are rescaled. -/
def scOf (a : Trip F) (m : FVec F S16x16x1 .f32) : FVec F S16x16x1 .f32 := exp (subf (a 1) m)
/-- The triple of two sets of keys from the triples of each. -/
def comb (a b : Trip F) : Trip F
  | 0 => addf (mulf (broadcastTo S16x16x64 (scOf a (mxOf a b)) broadcasts_S16x16x1_S16x16x64) (a 0))
      (mulf (broadcastTo S16x16x64 (scOf b (mxOf a b)) broadcasts_S16x16x1_S16x16x64) (b 0))
  | 1 => mxOf a b
  | 2 => addf (mulf (scOf a (mxOf a b)) (a 2)) (mulf (scOf b (mxOf a b)) (b 2))

/-- The stage number `s` as an index, past the last one the last. -/
abbrev stg (s : ℕ) : Fin 4 := ⟨s % 4, Nat.mod_lt _ (by decide)⟩

/-- Device `c`'s triple after `s` stages, from every device's own triple `A`. -/
def st (A : Dev nD → Trip F) : ℕ → Dev nD → Trip F
  | 0, c => A c
  | s + 1, c => comb (st A s c) (st A s (pr (stg s) c))

/-- What the last point writes: the weighted values over the sum. -/
def outOf (a : Trip F) : Vec F S16x1x16x64 .f32 :=
  shapeCast S16x1x16x64 (divf (a 0) (broadcastTo S16x16x64 (a 2) broadcasts_S16x16x1_S16x16x64)) shapeCasts_S16x16x64_S16x1x16x64

/-! ## Buffers and cells -/

/-- The buffer of component `i` of the own triple. -/
abbrev srcM : (i : Fin 3) → Memref sig .tc .vmem (shp i) .f32
  | 0 => Memref.whole cc0_scratch0 | 1 => Memref.whole cc0_scratch1 | 2 => Memref.whole cc0_scratch2

abbrev slabO : Fin 4 → Memref sig .tc .vmem S16x16x64 .f32
  | 0 => ((Memref.whole cc0_scratch3).slice (Rect.unit (s := S4x16x16x64) ![0, 0, 0, 0] S1x16x16x64.size inb_S4x16x16x64_S1x16x16x64_0_0_0_0) (fun _ => rfl)).squeeze S16x16x64 squeezes_S1x16x16x64_S16x16x64
  | 1 => ((Memref.whole cc0_scratch3).slice (Rect.unit (s := S4x16x16x64) ![1, 0, 0, 0] S1x16x16x64.size inb_S4x16x16x64_S1x16x16x64_1_0_0_0) (fun _ => rfl)).squeeze S16x16x64 squeezes_S1x16x16x64_S16x16x64
  | 2 => ((Memref.whole cc0_scratch3).slice (Rect.unit (s := S4x16x16x64) ![2, 0, 0, 0] S1x16x16x64.size inb_S4x16x16x64_S1x16x16x64_2_0_0_0) (fun _ => rfl)).squeeze S16x16x64 squeezes_S1x16x16x64_S16x16x64
  | 3 => ((Memref.whole cc0_scratch3).slice (Rect.unit (s := S4x16x16x64) ![3, 0, 0, 0] S1x16x16x64.size inb_S4x16x16x64_S1x16x16x64_3_0_0_0) (fun _ => rfl)).squeeze S16x16x64 squeezes_S1x16x16x64_S16x16x64
abbrev slabM : Fin 4 → Memref sig .tc .vmem S16x16x1 .f32
  | 0 => ((Memref.whole cc0_scratch4).slice (Rect.unit (s := S4x16x16x1) ![0, 0, 0, 0] S1x16x16x1.size inb_S4x16x16x1_S1x16x16x1_0_0_0_0) (fun _ => rfl)).squeeze S16x16x1 squeezes_S1x16x16x1_S16x16x1
  | 1 => ((Memref.whole cc0_scratch4).slice (Rect.unit (s := S4x16x16x1) ![1, 0, 0, 0] S1x16x16x1.size inb_S4x16x16x1_S1x16x16x1_1_0_0_0) (fun _ => rfl)).squeeze S16x16x1 squeezes_S1x16x16x1_S16x16x1
  | 2 => ((Memref.whole cc0_scratch4).slice (Rect.unit (s := S4x16x16x1) ![2, 0, 0, 0] S1x16x16x1.size inb_S4x16x16x1_S1x16x16x1_2_0_0_0) (fun _ => rfl)).squeeze S16x16x1 squeezes_S1x16x16x1_S16x16x1
  | 3 => ((Memref.whole cc0_scratch4).slice (Rect.unit (s := S4x16x16x1) ![3, 0, 0, 0] S1x16x16x1.size inb_S4x16x16x1_S1x16x16x1_3_0_0_0) (fun _ => rfl)).squeeze S16x16x1 squeezes_S1x16x16x1_S16x16x1
abbrev slabL : Fin 4 → Memref sig .tc .vmem S16x16x1 .f32
  | 0 => ((Memref.whole cc0_scratch5).slice (Rect.unit (s := S4x16x16x1) ![0, 0, 0, 0] S1x16x16x1.size inb_S4x16x16x1_S1x16x16x1_0_0_0_0) (fun _ => rfl)).squeeze S16x16x1 squeezes_S1x16x16x1_S16x16x1
  | 1 => ((Memref.whole cc0_scratch5).slice (Rect.unit (s := S4x16x16x1) ![1, 0, 0, 0] S1x16x16x1.size inb_S4x16x16x1_S1x16x16x1_1_0_0_0) (fun _ => rfl)).squeeze S16x16x1 squeezes_S1x16x16x1_S16x16x1
  | 2 => ((Memref.whole cc0_scratch5).slice (Rect.unit (s := S4x16x16x1) ![2, 0, 0, 0] S1x16x16x1.size inb_S4x16x16x1_S1x16x16x1_2_0_0_0) (fun _ => rfl)).squeeze S16x16x1 squeezes_S1x16x16x1_S16x16x1
  | 3 => ((Memref.whole cc0_scratch5).slice (Rect.unit (s := S4x16x16x1) ![3, 0, 0, 0] S1x16x16x1.size inb_S4x16x16x1_S1x16x16x1_3_0_0_0) (fun _ => rfl)).squeeze S16x16x1 squeezes_S1x16x16x1_S16x16x1
/-- Slab `s` of the receive buffer of component `i`. -/
abbrev slab (s : Fin 4) : (i : Fin 3) → Memref sig .tc .vmem (shp i) .f32
  | 0 => slabO s | 1 => slabM s | 2 => slabL s

/-- The barrier's semaphore. -/
abbrev barS : Sem sig := 0
abbrev sendQ (i : Fin 3) : DmaSem sig := ⟨7 + i.val, by have := i.isLt; show _ < 22; omega⟩
abbrev recvQ (s : Fin 4) (i : Fin 3) : DmaSem sig := ⟨10 + (3 * s.val + i.val), by have := i.isLt; have := s.isLt; show _ < 22; omega⟩

abbrev barCell (c : Dev nD) : GSem nD τ sig := ((c : Thread nD τ), .reg barS)
abbrev sendCell (i : Fin 3) (c : Dev nD) : GSem nD τ sig := ((c : Thread nD τ), .dma (sendQ i))
abbrev recvCell (s : Fin 4) (i : Fin 3) (c : Dev nD) : GSem nD τ sig := ((c : Thread nD τ), .dma (recvQ s i))

/-- The credit of a transfer of component `i`. -/
abbrev N (i : Fin 3) : ℕ := (srcM i).view.dmaCredit
theorem N_pos (i : Fin 3) : 0 < N i := by
  fin_cases i <;> exact View.dmaCredit_pos _ (by decide)
theorem slab_credit (s : Fin 4) (i : Fin 3) : (slab s i).view.dmaCredit = N i := by
  fin_cases i <;> fin_cases s <;> rfl

/-! ## The schedule -/

variable (A : Dev nD → Trip F)

/-- Slab `s` of device `c`'s receive buffers at some contents. -/
def slabAny (s : Fin 4) (i : Fin 3) (c : Dev nD) : sProp 𝕄 :=
  iprop(∃ X : Vec F (shp i) .f32, owns (c : Thread nD τ) (slab s i) fullShare X)

/-- What the partner of stage `s` hands to `c` with its barrier unit. -/
def barPay (s : Fin 4) (c : Dev nD) : sProp 𝕄 :=
  iprop((slabAny s 0 (pr s c) ∗ slabAny s 1 (pr s c) ∗ slabAny s 2 (pr s c))
    ∗ (reached ER (recvCell s 0 (pr s c)) 0 ∗ reached ER (recvCell s 1 (pr s c)) 0 ∗ reached ER (recvCell s 2 (pr s c)) 0))
/-- The own triple's component back after the copy of stage `s`. -/
def sendPay (s : ℕ) (i : Fin 3) (c : Dev nD) : sProp 𝕄 := owns (c : Thread nD τ) (srcM i) fullShare (st A s c i)
/-- The own slab holding the partner's component. -/
def recvPay (s : Fin 4) (i : Fin 3) (c : Dev nD) : sProp 𝕄 := owns (c : Thread nD τ) (slab s i) fullShare (st A s.val (pr s c) i)

/-- Payload of the DMA cell `q` of `c` at round `r`. -/
def dmaPay (c : Dev nD) (r : ℕ) : Fin 22 → sProp 𝕄
  | 7 => sendPay A r 0 c | 8 => sendPay A r 1 c | 9 => sendPay A r 2 c
  | 10 => recvPay A 0 0 c | 11 => recvPay A 0 1 c | 12 => recvPay A 0 2 c
  | 13 => recvPay A 1 0 c | 14 => recvPay A 1 1 c | 15 => recvPay A 1 2 c
  | 16 => recvPay A 2 0 c | 17 => recvPay A 2 1 c | 18 => recvPay A 2 2 c
  | 19 => recvPay A 3 0 c | 20 => recvPay A 3 1 c | 21 => recvPay A 3 2 c
  | _ => iprop(emp)

/-- The component whose transfers complete on the DMA cell `q`. -/
abbrev compOf : Fin 22 → Fin 3
  | 7 => 0 | 8 => 1 | 9 => 2 | 10 => 0 | 11 => 1 | 12 => 2 | 13 => 0 | 14 => 1 | 15 => 2
  | 16 => 0 | 17 => 1 | 18 => 2 | 19 => 0 | 20 => 1 | 21 => 2 | _ => 0

/-- How many rounds the DMA cell `q` has. -/
abbrev rounds (q : Fin 22) : ℕ := if q.val < 7 then 0 else if q.val < 10 then 4 else 1

/-- The duties of round `r` of a TensorCore's cell. -/
def dutOf (r : ℕ) : SemLoc sig → Finset (Fin 4)
  | .reg _ => if r = 0 then Finset.univ else ∅
  | .dma q => if r < rounds q then {0} else ∅
/-- The units of one duty of a cell. -/
def amtOf : SemLoc sig → ℕ
  | .reg _ => 1
  | .dma q => N (compOf q)
/-- What duty `d` of round `r` of a cell of `c` hands over. -/
def payOf (c : Dev nD) (r : ℕ) (d : Fin 4) : SemLoc sig → sProp 𝕄
  | .reg _ => barPay d c
  | .dma q => dmaPay A c r q

theorem amtOf_pos : ∀ sm : SemLoc sig, 0 < amtOf sm
  | .reg _ => Nat.one_pos
  | .dma q => N_pos _

instance payOf_storable (c : Dev nD) (r : ℕ) (d : Fin 4) (sm : SemLoc sig) : BI.Storable (upEmb : UEmb _ 𝕄) (payOf (F := F) A c r d sm) := by
  cases sm with
  | reg s => show BI.Storable upEmb (barPay d c); unfold barPay slabAny; infer_instance
  | dma q =>
    show BI.Storable upEmb (dmaPay A c r q)
    unfold dmaPay sendPay recvPay
    split <;> infer_instance

def sched : Rounds.Schedule (GSem nD τ sig) (Fin 4) 𝕄 where
  duties g r := if g.1.2 = .tc then dutOf r g.2 else ∅
  unitless _ := False
  amount g _ _ := amtOf g.2
  payload g r d := payOf A g.1.1 r d g.2
  amount_pos g _ _ _ := amtOf_pos g.2

instance sched_storable (g : GSem nD τ sig) (r : ℕ) (d : Fin 4) :
    BI.Storable (upEmb : UEmb _ 𝕄) ((sched (F := F) A).payload g r d) := payOf_storable A g.1.1 r d g.2

theorem comp_send (i : Fin 3) : compOf (sendQ i) = i := by revert i; decide
theorem comp_recv (s : Fin 4) (i : Fin 3) : compOf (recvQ s i) = i := by revert s i; decide
theorem rounds_send (i : Fin 3) : rounds (sendQ i) = 4 := by revert i; decide
theorem rounds_recv (s : Fin 4) (i : Fin 3) : rounds (recvQ s i) = 1 := by revert s i; decide
theorem pay_send (c : Dev nD) (r : ℕ) (i : Fin 3) : dmaPay A c r (sendQ i) = sendPay A r i c :=
  match i with | 0 => rfl | 1 => rfl | 2 => rfl
theorem pay_recv (c : Dev nD) (r : ℕ) (s : Fin 4) (i : Fin 3) : dmaPay A c r (recvQ s i) = recvPay A s i c :=
  match s, i with
  | 0, 0 => rfl | 0, 1 => rfl | 0, 2 => rfl | 1, 0 => rfl | 1, 1 => rfl | 1, 2 => rfl
  | 2, 0 => rfl | 2, 1 => rfl | 2, 2 => rfl | 3, 0 => rfl | 3, 1 => rfl | 3, 2 => rfl

section Tables

variable (c : Dev nD) (s : Fin 4) (i : Fin 3)

theorem duties_tc (sm : SemLoc sig) (r : ℕ) : (sched (F := F) A).duties ((c : Thread nD τ), sm) r = dutOf r sm := by
  dsimp only [sched]; exact if_pos rfl
theorem duties_bar : (sched (F := F) A).duties (barCell c) 0 = Finset.univ := rfl
theorem duties_send (r : ℕ) (hr : r < 4) : (sched (F := F) A).duties (sendCell i c) r = {0} := by
  rw [duties_tc]; unfold dutOf; dsimp only; rw [rounds_send, if_pos hr]
theorem duties_recv : (sched (F := F) A).duties (recvCell s i c) 0 = {0} := by
  rw [duties_tc]; unfold dutOf; dsimp only; rw [rounds_recv, if_pos Nat.one_pos]
theorem later_bar : ∀ r, 1 ≤ r → (sched (F := F) A).duties (barCell c) r = ∅ := fun r hr => by
  rw [duties_tc]; unfold dutOf; dsimp only; rw [if_neg (by omega)]
theorem later_send : ∀ r, 4 ≤ r → (sched (F := F) A).duties (sendCell i c) r = ∅ := fun r hr => by
  rw [duties_tc]; unfold dutOf; dsimp only; rw [rounds_send, if_neg (by omega)]
theorem later_recv : ∀ r, 1 ≤ r → (sched (F := F) A).duties (recvCell s i c) r = ∅ := fun r hr => by
  rw [duties_tc]; unfold dutOf; dsimp only; rw [rounds_recv, if_neg (by omega)]

theorem amount_bar (r : ℕ) (d : Fin 4) : (sched (F := F) A).amount (barCell c) r d = 1 := rfl
theorem amount_send (r : ℕ) (d : Fin 4) : (sched (F := F) A).amount (sendCell i c) r d = N i :=
  congrArg N (comp_send i)
theorem amount_recv (r : ℕ) (d : Fin 4) : (sched (F := F) A).amount (recvCell s i c) r d = N i :=
  congrArg N (comp_recv s i)

theorem expect_bar : (sched (F := F) A).expect (barCell c) 0 = 4 := by
  unfold Schedule.expect Schedule.amountOf
  rw [duties_bar, Finset.sum_congr rfl (fun d _ => amount_bar A c 0 d)]; rfl
theorem expect_send (r : ℕ) (hr : r < 4) : (sched (F := F) A).expect (sendCell i c) r = N i := by
  unfold Schedule.expect Schedule.amountOf; rw [duties_send A c i r hr, Finset.sum_singleton, amount_send]
theorem expect_recv : (sched (F := F) A).expect (recvCell s i c) 0 = N i := by
  unfold Schedule.expect Schedule.amountOf; rw [duties_recv, Finset.sum_singleton, amount_recv]

theorem payload_bar (r : ℕ) (d : Fin 4) : (sched (F := F) A).payload (barCell c) r d = barPay d c := rfl
theorem payload_send (r : ℕ) (d : Fin 4) : (sched (F := F) A).payload (sendCell i c) r d = sendPay A r i c := pay_send A c r i
theorem payload_recv (r : ℕ) (d : Fin 4) : (sched (F := F) A).payload (recvCell s i c) r d = recvPay A s i c := pay_recv A c r s i

theorem bigSep_stages {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ
theorem bigSep_comps {M : Type} [URA M] (Φ : Fin 3 → sProp M) : bigSep Finset.univ Φ = iprop(Φ 0 ∗ Φ 1 ∗ Φ 2) :=
  bigSep_univ_eq_bigSepL [(0 : Fin 3), 1, 2] (by decide) (by decide) Φ

theorem rest_bar : bigSep ((sched (F := F) A).duties (barCell c) 0 \ ∅) (fun u => (sched (F := F) A).payload (barCell c) 0 u)
    = iprop(barPay 0 c ∗ barPay 1 c ∗ barPay 2 c ∗ barPay 3 c) := by
  rw [Finset.sdiff_empty, duties_bar, bigSep_stages]; rfl
theorem rest_send (r : ℕ) (hr : r < 4) : bigSep ((sched (F := F) A).duties (sendCell i c) r \ ∅) (fun u => (sched (F := F) A).payload (sendCell i c) r u)
    = sendPay A r i c := by
  rw [Finset.sdiff_empty, duties_send A c i r hr, bigSep_singleton, payload_send]
theorem rest_recv : bigSep ((sched (F := F) A).duties (recvCell s i c) 0 \ ∅) (fun u => (sched (F := F) A).payload (recvCell s i c) 0 u)
    = recvPay A s i c := by
  rw [Finset.sdiff_empty, duties_recv, bigSep_singleton, payload_recv]

end Tables

/-! ## What each core owes, and the levels -/

/-- The cell that copy number `n` (stage `n / 3`, component `n % 3`) of device `c` completes on. -/
abbrev dueCell (c : Dev nD) (n : Fin 12) : GSem nD τ sig :=
  recvCell ⟨n.val / 3, by have := n.isLt; omega⟩ ⟨n.val % 3, Nat.mod_lt _ (by decide)⟩ (pr ⟨n.val / 3, by have := n.isLt; omega⟩ c)
/-- The credit owed for copy number `n`. -/
abbrev due (c : Dev nD) (n : Fin 12) : CellTallies nD τ sig Unit := tallyAt (dueCell c n) () (N ⟨n.val % 3, Nat.mod_lt _ (by decide)⟩)
/-- The credits of the last `j` copies. -/
def rem (c : Dev nD) : ℕ → CellTallies nD τ sig Unit
  | 0 => 0
  | j + 1 => rem c j + (if h : 11 - j < 12 then due c ⟨11 - j, h⟩ else 0)

/-- All twelve copies' credits, and the four partners' barrier units. -/
def O₀ (c : Dev nD) : CellTallies nD τ sig Unit :=
  rem c 12 + tallyAt (barCell (pr 3 c)) () 1 + tallyAt (barCell (pr 2 c)) () 1 + tallyAt (barCell (pr 1 c)) () 1 + tallyAt (barCell (pr 0 c)) () 1

def L (g : GSem nD τ sig) : Finset Unit := if g.1.2 = .tc then {()} else ∅
/-- The barrier below the receive cells, those of a stage below those of the next; the rest at the bottom. -/
def lv (g : GSem nD τ sig) (_ : Unit) : ℕ := match g.2 with
  | .reg _ => 1
  | .dma q => if q.val < 10 then 0 else 2 + (q.val - 10) / 3

theorem L_of_ne (g : GSem nD τ sig) (h : g.1.2 ≠ .tc) : L g = ∅ := if_neg h
theorem L_tc (c : Dev nD) (sm : SemLoc sig) : L ((c : Thread nD τ), sm) = {()} := if_pos rfl

theorem tally_pos {g h : GSem nD τ sig} {u : Unit} {k : ℕ} (hg : 0 < tallyAt h () k g u) : g = h := by
  rw [tallyAt_apply] at hg
  by_contra hne
  rw [if_neg (fun e => hne e.1)] at hg
  exact absurd hg (Nat.lt_irrefl 0)

theorem rem_pos (c : Dev nD) : ∀ (j : ℕ), j ≤ 12 → ∀ (g : GSem nD τ sig) (u : Unit), 0 < rem c j g u → ∃ n : Fin 12, 12 - j ≤ n.val ∧ g = dueCell c n
  | 0, _, g, u, h => absurd h (Nat.lt_irrefl 0)
  | j + 1, hj, g, u, h => by
    have e : rem c (j + 1) g u = rem c j g u + due c ⟨11 - j, by omega⟩ g u := by
      rw [rem, dif_pos (by omega : 11 - j < 12)]; rfl
    rw [e] at h
    rcases Nat.eq_zero_or_pos (rem c j g u) with h0 | h0
    · rw [h0, Nat.zero_add] at h
      exact ⟨⟨11 - j, by omega⟩, by show 12 - (j + 1) ≤ 11 - j; omega, tally_pos h⟩
    · obtain ⟨n, hn, hg⟩ := rem_pos c j (by omega) g u h0
      exact ⟨n, by omega, hg⟩

/-- A core may wait on `sm` owing the last `j` copies when `sm`'s level is below theirs. -/
theorem mayWait_rem (c : Dev nD) (sm : SemLoc sig) (j : ℕ) (hj : j ≤ 12) (hl : lv ((c : Thread nD τ), sm) () < 2 + (12 - j) / 3) :
    (levAts L lv : sProp 𝕄) ⊢ MayWait (c : Thread nD τ) sm () (rem c j) :=
  MayOwe.of_cut (L := L) (lev := lv) (lv ((c : Thread nD τ), sm) ())
    (fun p hp => by rw [Finset.mem_singleton.mp hp, L_tc]; exact Finset.mem_singleton_self _)
    (fun g u hg => by obtain ⟨n, _, rfl⟩ := rem_pos c j hj g u hg; rw [L_tc]; exact Finset.mem_singleton_self _)
    (fun p hp => by rw [Finset.mem_singleton.mp hp])
    (fun g u hg => by
      obtain ⟨n, hn, rfl⟩ := rem_pos c j hj g u hg
      refine lt_of_lt_of_le hl ?_
      show 2 + (12 - j) / 3 ≤ (if 10 + (3 * (n.val / 3) + n.val % 3) < 10 then 0 else 2 + (10 + (3 * (n.val / 3) + n.val % 3) - 10) / 3)
      rw [if_neg (by omega)]; omega)

end Cert.KernelIdeal.Exchange

end
-- ==== Proof.Steps.lean ====
/- One rule per statement of the exchange: the four barrier signals, the barrier's wait, a copy, and the waits for a copy's
   two ends, each over the protocol's schedule and for a symbolic device, stage and component. -/
module

public import Idealize.ShloMosaic.Lib.VecWindow
public import proofs.«01_k».proof.Proof.Protocol

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ UU ℕ

variable (A : Dev nD → Trip F)

abbrev 𝒱₀ : Variants := Variants.none

/-! ## The cells and their records -/

/-- The kernel's own DMA semaphores: three for sending, twelve for receiving. -/
abbrev osem (k : Fin 15) : SemLoc sig := .dma ⟨7 + k.val, by have := k.isLt; show _ < 22; omega⟩

def barEmb : Dev nD ↪ GSem nD τ sig := ⟨fun c => barCell c, fun _ _ h => congrArg (fun g : GSem nD τ sig => g.1.1) h⟩
theorem osem_inj : Function.Injective osem := by decide
theorem osem_ne_bar : ∀ k : Fin 15, osem k ≠ .reg barS := fun k h => by cases h
def scEmb : Dev nD × Fin 15 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem osem_mem (c : Dev nD) (k : Fin 15) : ((c : Thread nD τ), osem k) ∈ (barCells ∪ scCells : Finset (GSem nD τ sig)) :=
  Finset.mem_union_right _ (Finset.mem_map_of_mem scEmb (Finset.mem_univ (c, k)))
theorem send_mem (i : Fin 3) (c : Dev nD) : sendCell i c ∈ (barCells ∪ scCells : Finset (GSem nD τ sig)) :=
  osem_mem c ⟨i.val, by have := i.isLt; omega⟩
theorem recv_mem (s : Fin 4) (i : Fin 3) (c : Dev nD) : recvCell s i c ∈ (barCells ∪ scCells : Finset (GSem nD τ sig)) := by
  have h := osem_mem c ⟨3 + (3 * s.val + i.val), by have := i.isLt; have := s.isLt; omega⟩
  have e : (osem ⟨3 + (3 * s.val + i.val), by have := i.isLt; have := s.isLt; omega⟩ : SemLoc sig) = .dma (recvQ s i) :=
    congrArg SemLoc.dma (Fin.ext (by show 7 + (3 + (3 * s.val + i.val)) = 10 + (3 * s.val + i.val); omega))
  rw [e] at h; exact h

/-- All the invariants under one map of names, and that round 0 of every barrier cell is reached. -/
def records (κ : GSem nD τ sig → ℕ) : sProp 𝕄 :=
  iprop((bigSep (barCells ∪ scCells) fun g => cellInv ER (sched A) (κ g) g) ∗ bigSep barCells fun g => reached ER g 0)

instance records_persistent (κ : GSem nD τ sig → ℕ) : BI.Persistent (records A κ) := by unfold records; infer_instance

theorem inv_at (κ : GSem nD τ sig → ℕ) {g : GSem nD τ sig} (hg : g ∈ (barCells ∪ scCells : Finset (GSem nD τ sig))) :
    records A κ ⊢ cellInv ER (sched A) (κ g) g := by
  unfold records
  iintro ⟨H, -⟩
  iapply (show (bigSep (barCells ∪ scCells) fun g => (cellInv ER (sched A) (κ g) g : sProp 𝕄)) ⊢ cellInv ER (sched A) (κ g) g from bigSep_elim hg)
  iexact H

theorem reached_at (κ : GSem nD τ sig → ℕ) (c : Dev nD) : records A κ ⊢ reached ER (barCell c) 0 := by
  unfold records
  iintro ⟨-, H⟩
  iapply (show (bigSep barCells fun g => (reached ER g 0 : sProp 𝕄)) ⊢ reached ER (barCell c) 0 from
    bigSep_elim (Finset.mem_map_of_mem barEmb (Finset.mem_univ c)))
  iexact H

/-! ## The barrier -/

variable (κ : GSem nD τ sig → ℕ)

/-- The signal to the partner of stage `s`: the own slabs of the stage go with it. -/
theorem wp_bar_signal (s : Fin 4) (c n : Dev nD) (hn : n = pr s c) {sm : Sem sig} (hsm : sm = barS) (O : CellTallies nD τ sig Unit) (W : Waits sig Unit)
    {α : Type} {Q : α → sProp 𝕄} {k : PUnit → Prog (TpuEff nD τ sig (Elt F) Λ₀ .tc) α} :
    iprop(records A κ ∗ owes (c : Thread nD τ) (O + tallyAt (barCell (pr s c)) () 1) W ∗ dutyTok ER (barCell (pr s c)) 0 s
        ∗ (slabAny s 0 c ∗ slabAny s 1 c ∗ slabAny s 2 c)
        ∗ (reached ER (recvCell s 0 c) 0 ∗ reached ER (recvCell s 1 c) 0 ∗ reached ER (recvCell s 2 c) 0))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sm 1) k) Q) := by
  subst hn; subst hsm
  iintro ⟨#HR, HO, Ht, Hs, Hr⟩ Hk
  iapply (Rounds.wp_signal 𝒱₀ ER (sched A) (c : Thread nD τ) none (dst := (pr s c : Thread nD τ)) (sem := barS) (r := 0) (d := s) (κ := κ (barCell (pr s c)))
      (by rw [duties_bar]; exact Finset.mem_univ _) (amount_bar A (pr s c) 0 s) () O rfl) $$ [HO Ht Hs Hr]
  · isplitr; · iapply (inv_at A κ (bar_mem (pr s c))); iexact HR
    isplitl [HO]; · iexact HO
    isplitl [Ht]; · iexact Ht
    isplitl [Hs Hr]
    · rw [payload_bar]; unfold barPay; rw [pr_pr]
      isplitl [Hs] <;> iassumption
    · iapply (reached_at A κ (pr s c)); iexact HR
  iexact Hk

/-- The wait for the four units: every partner's slabs come with them. -/
theorem wp_bar_wait (c : Dev nD) {sm : Sem sig} (hsm : sm = barS) (W : Waits sig Unit)
    {α : Type} {Q : α → sProp 𝕄} {k : PUnit → Prog (TpuEff nD τ sig (Elt F) Λ₀ .tc) α} :
    iprop(records A κ ∗ levAts L lv ∗ cred (tallyAt (barCell c) () 4) ∗ owes (c : Thread nD τ) (rem c 12) W ∗ atPos ER (barCell c) 0 ∅ 0)
      ⊢ iprop(((owes (c : Thread nD τ) (rem c 12) (insert (SemLoc.reg barS, ()) W) ∗ atPos ER (barCell c) 1 ∅ 0
            ∗ barPay 0 c ∗ barPay 1 c ∗ barPay 2 c ∗ barPay 3 c)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait sm 4) k) Q) := by
  subst hsm
  iintro ⟨#HR, #Hlev, Hc, HO, Hat⟩ Hk
  iapply (Rounds.wp_wait_rest_token 𝒱₀ ER (sched A) (c : Thread nD τ) none (κ := κ (barCell c))
      (wpE_semWait_eq 𝒱₀ (c : Thread nD τ) none Set.univ) (Set.mem_univ _) () (O := rem c 12) (W := W) (R := 0) (m := 0) (T := ∅)
      ((Nat.zero_add 4).trans (expect_bar A c).symm)) $$ [Hc HO Hat]
  · isplitr; · iapply (inv_at A κ (bar_mem c)); iexact HR
    isplitl [Hc]; · iexact Hc
    isplitl [HO]; · iexact HO
    isplitr; · iapply (mayWait_rem c (.reg barS) 12 (by omega) (by show 1 < 2 + (12 - 12) / 3; omega)); iexact Hlev
    iexact Hat
  iintro ⟨HO, Hat, -, Hpay⟩
  iapply Hk
  isplitl [HO]; · iexact HO
  isplitl [Hat]; · iexact Hat
  iapply (Entails.of_eq (rest_bar A c)) $$ Hpay

/-! ## The copies -/

/-- What the waits and the copies of the last grid point consult: the records and the levels. -/
def env : sProp 𝕄 := iprop(records A κ ∗ levAts L lv)
instance env_persistent : BI.Persistent (env A κ) := by unfold env; infer_instance

/-- The credits of the last `j` copies still to be issued. -/
def ow (c : Dev nD) (j : ℕ) : sProp 𝕄 := iprop(∃ W, owes (c : Thread nD τ) (rem c j) W)
/-- What the copy of component `i` at stage `s` spends: the partner's slab, the two ends' duties. -/
def copyRes (s : Fin 4) (i : Fin 3) (c : Dev nD) : sProp 𝕄 :=
  iprop(slabAny s i (pr s c) ∗ reached ER (recvCell s i (pr s c)) 0 ∗ dutyTok ER (sendCell i c) s.val 0 ∗ dutyTok ER (recvCell s i (pr s c)) 0 0)
/-- What the wait for the partner's copy of component `i` at stage `s` spends. -/
def waitRes (s : Fin 4) (i : Fin 3) (c : Dev nD) : sProp 𝕄 :=
  iprop(cred (tallyAt (recvCell s i c) () (N i)) ∗ atPos ER (recvCell s i c) 0 ∅ 0)
/-- After that wait: the own slab at the partner's triple, the semaphore drawn to its end. -/
def gotRes (s : Fin 4) (i : Fin 3) (c : Dev nD) : sProp 𝕄 :=
  iprop(recvPay A s i c ∗ atPos ER (recvCell s i c) 1 ∅ 0)
/-- The send semaphore of component `i` before its copy of stage `r`. -/
def sendPos (r : ℕ) (i : Fin 3) (c : Dev nD) : sProp 𝕄 := iprop(atPos ER (sendCell i c) r ∅ 0 ∗ reached ER (sendCell i c) r)
/-- The send semaphore while that copy is in flight. -/
def flight (r : ℕ) (i : Fin 3) (c : Dev nD) : sProp 𝕄 := iprop(cred (tallyAt (sendCell i c) () (N i)) ∗ atPos ER (sendCell i c) r ∅ 0)

theorem rem_step (c : Dev nD) (s : Fin 4) (i : Fin 3) :
    rem c (12 - (3 * s.val + i.val)) = rem c (11 - (3 * s.val + i.val)) + tallyAt (recvCell s i (pr s c)) () (N i) := by
  fin_cases s <;> fin_cases i <;> rfl

/-- The copy of component `i` at stage `s`: the source at the triple of the stage, the partner's slab at anything. -/
theorem wp_copy (s : Fin 4) (i : Fin 3) (c n : Dev nD) (hn : n = pr s c) (j j' : ℕ) (hj : j = 12 - (3 * s.val + i.val)) (hj' : j' = 11 - (3 * s.val + i.val))
    {src : Memref sig .tc .vmem (shp i) .f32} (hS : src = srcM i)
    {dst : Memref sig (Dev.tc n : Thread nD τ).2.kind .vmem (shp i) .f32} (hD : dst = slab s i)
    {sq rq : DmaSem sig} (hsq : sq = sendQ i) (hrq : rq = recvQ s i)
    {hsc : dst.view.ref.isScScratch = false} {hsrc : src.view.WordExact} {hdst : dst.view.WordExact}
    {hsem : DmaTarget.Typed .vmem (.dma rq) (.remote (Dev.tc n : Thread nD τ) dst (.dma sq) hsc)}
    {α : Type} {Q : α → sProp 𝕄} {k : PUnit → Prog (TpuEff nD τ sig (Elt F) Λ₀ .tc) α} :
    iprop(env A κ ∗ sendPay A s.val i c ∗ copyRes s i c ∗ sendPos s.val i c ∗ ow c j)
      ⊢ iprop((flight s.val i c ∗ ow c j' -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sq) hsc) (.dma rq) hsrc hdst hsem) k) Q) := by
  subst hn; subst hS; subst hD; subst hsq; subst hrq; subst hj; subst hj'
  unfold env ow copyRes sendPos flight slabAny sendPay owns
  iintro ⟨⟨#HR, -⟩, ⟨%fs, %hfs, Hs⟩, ⟨⟨%X, %fd, %hfd, Hd⟩, #Hr2, Ht1, Ht2⟩, ⟨Hat, #Hr1⟩, ⟨%W, HO⟩⟩ Hk
  iapply (Rounds.wp_send_pointsTo 𝒱₀ ER (sched A) (c : Thread nD τ) none (κ₁ := κ (sendCell i c)) (κ₂ := κ (recvCell s i (pr s c)))
    (r₁ := s.val) (r₂ := 0) (d₁ := 0) (d₂ := 0) (fd := fd) (fs := fs) (q := fullShare)
    (by rw [duties_send A c i s.val s.isLt]; exact Finset.mem_singleton_self _) (by rw [duties_recv]; exact Finset.mem_singleton_self _)
    () () (N i) (show (slab s i).view.amount (.dma (recvQ s i)) = N i from slab_credit s i) (amount_send A c i s.val 0) (amount_recv A (pr s c) s i 0 0)
    (rem c (11 - (3 * s.val + i.val))) (rem_step c s i) (W := W)
    (by
      rw [payload_send]; unfold sendPay owns
      iintro H; iexists fs; isplitr; · (ipureintro; exact hfs)
      iexact H)
    (by
      rw [payload_recv]; unfold recvPay owns; rw [pr_pr]
      iintro H; iexists _; isplitr
      rotate_left
      · iexact H
      · ipureintro; rw [View.read_write_univ]; exact hfs)) $$ [Hs Hd HO Ht1 Ht2]
  · isplitr; · iapply (inv_at A κ (send_mem i c)); iexact HR
    isplitr; · iapply (inv_at A κ (recv_mem s i (pr s c))); iexact HR
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc Hat]
  · isplitl [Hc] <;> iassumption
  · iexists W; iexact HO

/-- The wait for the own copy's end: the source comes back. -/
theorem wp_wait_send (r : ℕ) (i : Fin 3) (c : Dev nD) (hr : r < 4) (j : ℕ) (hj : j ≤ 12)
    {s' : Shape} {e' : EltTy} {src : Memref sig .tc .vmem s' e'} {dst : Memref sig .tc .vmem (shp i) .f32} (hD : dst = srcM i)
    {sq : DmaSem sig} (hsq : sq = sendQ i) {hsrc : src.view.WordExact} {hdst : dst.view.WordExact}
    {α : Type} {Q : α → sProp 𝕄} {k : PUnit → Prog (TpuEff nD τ sig (Elt F) Λ₀ .tc) α} :
    iprop(env A κ ∗ flight r i c ∗ ow c j)
      ⊢ iprop((sendPay A r i c ∗ sendPos (r + 1) i c ∗ ow c j -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sq src dst hsrc hdst) k) Q) := by
  subst hsq; subst hD
  unfold env ow sendPos flight
  iintro ⟨⟨#HR, #Hlev⟩, ⟨Hc, Hat⟩, ⟨%W, HO⟩⟩ Hk
  iapply (Rounds.wp_wait_rest_token 𝒱₀ ER (sched A) (c : Thread nD τ) none (κ := κ (sendCell i c))
      (wpE_waitDma2_eq 𝒱₀ (c : Thread nD τ) none Set.univ) (Set.mem_univ _) () (O := rem c j) (W := W) (R := r) (m := 0) (T := ∅)
      ((Nat.zero_add _).trans (expect_send A c i r hr).symm)) $$ [Hc HO Hat]
  · isplitr; · iapply (inv_at A κ (send_mem i c)); iexact HR
    isplitl [Hc]; · iexact Hc
    isplitl [HO]; · iexact HO
    isplitr
    · iapply (mayWait_rem c (.dma (sendQ i)) j hj (by
        show (if 7 + i.val < 10 then 0 else 2 + (7 + i.val - 10) / 3) < 2 + (12 - j) / 3
        have := i.isLt; rw [if_pos (by omega)]; omega)); iexact Hlev
    iexact Hat
  iintro ⟨HO, Hat, Hr, Hpay⟩
  iapply Hk
  isplitl [Hpay]
  · iapply (Entails.of_eq (rest_send A c i r hr)) $$ Hpay
  isplitl [Hat Hr]
  · isplitl [Hat] <;> iassumption
  · iexists _; iexact HO

/-- The wait for the partner's copy of component `i` at stage `s`, every own copy up to the stage issued. -/
theorem wp_wait_recv (s : Fin 4) (i : Fin 3) (c : Dev nD) (j : ℕ) (hj : j = 9 - 3 * s.val)
    {s' : Shape} {e' : EltTy} {src : Memref sig .tc .vmem s' e'} {dst : Memref sig .tc .vmem (shp i) .f32} (hD : dst = slab s i)
    {rq : DmaSem sig} (hrq : rq = recvQ s i) {hsrc : src.view.WordExact} {hdst : dst.view.WordExact}
    {α : Type} {Q : α → sProp 𝕄} {k : PUnit → Prog (TpuEff nD τ sig (Elt F) Λ₀ .tc) α} :
    iprop(env A κ ∗ waitRes s i c ∗ ow c j)
      ⊢ iprop((gotRes A s i c ∗ ow c j -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 rq src dst hsrc hdst) k) Q) := by
  subst hrq; subst hD; subst hj
  unfold env ow waitRes gotRes
  iintro ⟨⟨#HR, #Hlev⟩, ⟨Hc, Hat⟩, ⟨%W, HO⟩⟩ Hk
  iapply (Rounds.wp_wait_rest_token 𝒱₀ ER (sched A) (c : Thread nD τ) none (κ := κ (recvCell s i c))
      (wpE_waitDma2_eq 𝒱₀ (c : Thread nD τ) none Set.univ) (Set.mem_univ _) () (O := rem c (9 - 3 * s.val)) (W := W) (R := 0) (m := 0) (T := ∅)
      ((Nat.zero_add _).trans ((slab_credit s i).trans (expect_recv A c s i).symm))) $$ [Hc HO Hat]
  · isplitr; · iapply (inv_at A κ (recv_mem s i c)); iexact HR
    isplitl [Hc]; · rw [slab_credit]; iexact Hc
    isplitl [HO]; · iexact HO
    isplitr
    · iapply (mayWait_rem c (.dma (recvQ s i)) (9 - 3 * s.val) (by omega) (by
        show (if 10 + (3 * s.val + i.val) < 10 then 0 else 2 + (10 + (3 * s.val + i.val) - 10) / 3) < 2 + (12 - (9 - 3 * s.val)) / 3
        have := i.isLt; have := s.isLt; rw [if_neg (by omega)]; omega)); iexact Hlev
    iexact Hat
  iintro ⟨HO, Hat, -, Hpay⟩
  iapply Hk
  isplitl [Hpay Hat]
  · isplitl [Hpay]
    · iapply (Entails.of_eq (rest_recv A c s i)) $$ Hpay
    · iexact Hat
  · iexists _; iexact HO

/-! ## Loads and stores -/

section Access

variable (c : Dev nD) {sh : Shape} {e : EltTy} (m : Memref sig .tc .vmem sh e)

/-- A load of a memref's own sizes reads what it holds. -/
theorem wp_load_full (X : Vec F sh e) {q : PosShare TreeShare} {off : Fin sh.rank → ℕ} {inb : ∀ a, off a + sh.size a ≤ sh.size a}
    {hl : m.view.LoadsAt (Rect.unit off sh.size inb).toLoadRect} {α : Type} {Q : α → sProp 𝕄} {k : Vec F sh e → Prog (TpuEff nD τ sig (Elt F) Λ₀ .tc) α} :
    owns (c : Thread nD τ) m q X
      ⊢ iprop((owns (c : Thread nD τ) m q X -∗ wp frame (wpE (defs₀ (F := F)) 𝒱₀ (c : Thread nD τ) none) Set.univ (k X) Q)
        -∗ wp frame (wpE (defs₀ (F := F)) 𝒱₀ (c : Thread nD τ) none) Set.univ (.op (.load m (Rect.unit off sh.size inb).toLoadRect hl) k) Q) := by
  unfold owns
  iintro ⟨%f, %hf, H⟩ Hk
  iapply (wp_load 𝒱₀ (c : Thread nD τ) none Set.univ (m := m) (View.setOn_subset_set _ _)) $$ H
  iintro H
  have e : m.view.readAt (Elt F) (Rect.unit off sh.size inb).toLoadRect f = X := (View.readAt_full m.view f inb).trans hf
  rewrite [e]
  iapply Hk
  iexists f; isplitr; · (ipureintro; exact hf)
  iexact H

/-- A load through a held squeezed slice of the memref reads that slice, with the axes of size one put back. -/
theorem wp_load_slice {sq : Shape} (r : Rect sh) (hr : ∀ a, r.stride a = 1) (hq : r.shape.Squeezes sq) (X : Vec F sq e) {q : PosShare TreeShare}
    {hl : m.view.LoadsAt r.toLoadRect} {α : Type} {Q : α → sProp 𝕄} {k : Vec F r.shape e → Prog (TpuEff nD τ sig (Elt F) Λ₀ .tc) α} :
    owns (c : Thread nD τ) ((m.slice r hr).squeeze sq hq) q X
      ⊢ iprop((∀ Y, ⌜∀ h, shapeCast sq Y h = X⌝ -∗ owns (c : Thread nD τ) ((m.slice r hr).squeeze sq hq) q X
            -∗ wp frame (wpE (defs₀ (F := F)) 𝒱₀ (c : Thread nD τ) none) Set.univ (k Y) Q)
        -∗ wp frame (wpE (defs₀ (F := F)) 𝒱₀ (c : Thread nD τ) none) Set.univ (.op (.load m r.toLoadRect hl) k) Q) := by
  unfold owns
  iintro ⟨%f, %hf, H⟩ Hk
  iapply (wp_load_rect 𝒱₀ (c : Thread nD τ) none Set.univ (m := m) (r := r) (hl := hl) (S := ((m.slice r hr).squeeze sq hq).view.set) (f := f)
    (by rw [show ((m.slice r hr).squeeze sq hq).view.set = (m.access r).set from View.set_reshape _ _])) $$ H
  iintro H
  iapply Hk $$ %((m.access r).read (Elt F) f) %(fun h => hf) [H]
  iexists f; isplitr; · (ipureintro; exact hf)
  iexact H

/-- An unmasked store at a rectangle leaves the rest as it was. -/
theorem wp_store_put (X : Vec F sh e) {off off' size : Fin sh.rank → ℕ} (ho : off = off') {inb : ∀ a, off a + size a ≤ sh.size a}
    {w : (Rect.unit off size inb).shape.Idx → Elt F e} {hx : (m.access (Rect.unit off size inb)).Stores Finset.univ} {hm}
    {α : Type} {Q : α → sProp 𝕄} {k : PUnit → Prog (TpuEff nD τ sig (Elt F) Λ₀ .tc) α} :
    owns (c : Thread nD τ) m fullShare X
      ⊢ iprop((owns (c : Thread nD τ) m fullShare (VecWindow.put X off' size w) -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off size inb) w Finset.univ hx hm) k) Q) := by
  unfold owns
  iintro ⟨%f, %hf, H⟩ Hk
  iapply (wp_store 𝒱₀ (c : Thread nD τ) none Set.univ (m := m) (r := Rect.unit off size inb) (w := w) (Mk := Finset.univ) (hx := hx) (hm := hm) (f := f)
    (S := m.view.set) (by rw [View.setOn_univ]; exact View.set_slice_subset _ _)) $$ H
  iintro H
  iapply Hk
  iexists _; isplitr
  rotate_left
  · iexact H
  · ipureintro
    have h := View.read_writes_cons_put m.view f inb w [] ho
    rw [View.writes_nil, hf] at h
    exact h

/-- A store of a memref's own sizes leaves the payload. -/
theorem wp_store_full (X w : Vec F sh e) {off : Fin sh.rank → ℕ} {inb : ∀ a, off a + sh.size a ≤ sh.size a}
    {hx : (m.access (Rect.unit off sh.size inb)).Stores Finset.univ} {hm}
    {α : Type} {Q : α → sProp 𝕄} {k : PUnit → Prog (TpuEff nD τ sig (Elt F) Λ₀ .tc) α} :
    owns (c : Thread nD τ) m fullShare X
      ⊢ iprop((owns (c : Thread nD τ) m fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off sh.size inb) w Finset.univ hx hm) k) Q) := by
  unfold owns
  iintro ⟨%f, %hf, H⟩ Hk
  iapply (wp_store 𝒱₀ (c : Thread nD τ) none Set.univ (m := m) (r := Rect.unit off sh.size inb) (w := w) (Mk := Finset.univ) (hx := hx) (hm := hm) (f := f)
    (S := m.view.set) (by rw [View.setOn_univ]; exact View.set_slice_subset _ _)) $$ H
  iintro H
  iapply Hk
  iexists _; isplitr
  rotate_left
  · iexact H
  · ipureintro
    exact View.read_writes_full m.view f inb w []

end Access

end Cert.KernelIdeal.Exchange

end
-- ==== Proof.Stages.lean ====
/- The values of the last grid point's combination and its printed parts, each run once at a symbolic device: what a part takes
   of the exchange's state and what it leaves. -/
module

public import proofs.«01_k».proof.Proof.Gen.KernelIdeal.Skeleton
public import Idealize.ShloMosaic.Lib.Pipeline.Value
public import proofs.«01_k».proof.Proof.Steps

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ UU ℕ

variable (A : Dev nD → Trip F)

variable (κ : GSem nD τ sig → ℕ)

/-! ## What the printed values are -/

section Vals

variable (a b : Trip F) (Y1 Y2 : Vec F S1x16x16x1 .f32) (Y0 : Vec F S1x16x16x64 .f32)
  (h0 : ∀ h, shapeCast S16x16x64 Y0 h = b 0) (h1 : ∀ h, shapeCast S16x16x1 Y1 h = b 1) (h2 : ∀ h, shapeCast S16x16x1 Y2 h = b 2)

/-- The first triple's factor, spread over the values. -/
abbrev spread (x : FVec F S16x16x1 .f32) : FVec F S16x16x64 .f32 := broadcastTo S16x16x64 x broadcasts_S16x16x1_S16x16x64

include h1 in
theorem pay1_eq : k0_pay1 Y1 = b 1 := h1 _
include h1 in
theorem pay2_eq : k0_pay2 (a 1) Y1 = mxOf a b := congrArg (maximumf (a 1)) (h1 _)
include h1 in
theorem pay3_eq : k0_pay3 (a 1) Y1 = subf (a 1) (mxOf a b) := congrArg (subf (a 1)) (pay2_eq a b Y1 h1)
include h0 in
theorem pay6_eq : k0_pay6 (b 1) (mxOf a b) (subf (a 1) (mxOf a b)) (a 0) Y0 = comb a b 0 := by
  unfold k0_pay6; simp only [h0, shapeCast_self]; rfl
include h2 in
theorem pay7_eq : k0_pay7 (b 1) (mxOf a b) (subf (a 1) (mxOf a b)) (a 2) Y2 = comb a b 2 := by
  unfold k0_pay7; simp only [h2, shapeCast_self]; rfl
theorem pay8_eq : k0_pay8 (mxOf a b) = comb a b 1 := shapeCast_self _ _
include h1 in
theorem pay10_eq : k0_pay10 (a 1) Y1 = mxOf a b := congrArg (maximumf (a 1)) (h1 _)
include h1 in
theorem pay11_eq : k0_pay11 (a 1) Y1 = scOf a (mxOf a b) := congrArg (fun x => exp (subf (a 1) x)) (pay10_eq a b Y1 h1)
include h1 in
theorem pay12_eq : k0_pay12 (a 1) Y1 = scOf b (mxOf a b) :=
  congrArg₂ (fun x y => exp (subf x y)) (h1 _) (pay10_eq a b Y1 h1)
include h1 in
theorem pay13_eq : k0_pay13 (a 1) Y1 = spread (scOf a (mxOf a b)) := congrArg spread (pay11_eq a b Y1 h1)
include h0 in
theorem pay14_eq : k0_pay14 (scOf b (mxOf a b)) (a 0) (spread (scOf a (mxOf a b))) Y0 = comb a b 0 := by
  unfold k0_pay14; simp only [h0, shapeCast_self]; rfl
include h2 in
theorem pay15_eq : k0_pay15 (scOf a (mxOf a b)) (scOf b (mxOf a b)) (a 2) Y2 = comb a b 2 := by
  unfold k0_pay15; simp only [h2, shapeCast_self]; rfl
theorem pay16_eq : k0_pay16 (mxOf a b) = comb a b 1 := shapeCast_self _ _
include h1 in
theorem pay18_eq : k0_pay18 (a 1) Y1 = mxOf a b := congrArg (maximumf (a 1)) (h1 _)
include h1 in
theorem pay19_eq : k0_pay19 (a 1) Y1 = scOf a (mxOf a b) := congrArg (fun x => exp (subf (a 1) x)) (pay18_eq a b Y1 h1)
include h1 in
theorem pay20_eq : k0_pay20 (a 1) Y1 = scOf b (mxOf a b) :=
  congrArg₂ (fun x y => exp (subf x y)) (h1 _) (pay18_eq a b Y1 h1)
include h1 in
theorem pay21_eq : k0_pay21 (a 1) Y1 (a 0) = mulf (spread (scOf a (mxOf a b))) (a 0) :=
  congrArg (fun x => mulf (spread x) (a 0)) (pay19_eq a b Y1 h1)
include h0 in
theorem pay22_eq : k0_pay22 Y0 = b 0 := h0 _
include h1 in
theorem pay23_eq : k0_pay23 (a 1) Y1 = spread (scOf b (mxOf a b)) := congrArg spread (pay20_eq a b Y1 h1)
theorem pay24_eq : k0_pay24 (mulf (spread (scOf a (mxOf a b))) (a 0)) (b 0) (spread (scOf b (mxOf a b))) = comb a b 0 := shapeCast_self _ _
include h2 in
theorem pay25_eq : k0_pay25 (scOf a (mxOf a b)) (scOf b (mxOf a b)) (a 2) Y2 = comb a b 2 := by
  unfold k0_pay25; simp only [h2, shapeCast_self]; rfl
theorem pay26_eq : k0_pay26 (mxOf a b) = comb a b 1 := shapeCast_self _ _
include h1 in
theorem pay28_eq : k0_pay28 (a 1) Y1 = mxOf a b := congrArg (maximumf (a 1)) (h1 _)
include h1 in
theorem pay29_eq : k0_pay29 (a 1) Y1 = scOf a (mxOf a b) := congrArg (fun x => exp (subf (a 1) x)) (pay28_eq a b Y1 h1)
include h1 in
theorem pay30_eq : k0_pay30 (a 1) Y1 = scOf b (mxOf a b) :=
  congrArg₂ (fun x y => exp (subf x y)) (h1 _) (pay28_eq a b Y1 h1)
include h0 h1 in
theorem pay31_eq : k0_pay31 (a 1) Y1 (a 0) Y0 = comb a b 0 := by
  unfold k0_pay31; rw [pay29_eq a b Y1 h1, pay30_eq a b Y1 h1]; simp only [h0, shapeCast_self]; rfl
include h2 in
theorem pay32_eq : k0_pay32 (scOf a (mxOf a b)) (scOf b (mxOf a b)) (a 2) Y2 = comb a b 2 := by
  unfold k0_pay32; simp only [h2, shapeCast_self]; rfl
theorem pay33_eq : k0_pay33 (mxOf a b) = comb a b 1 := shapeCast_self _ _
theorem pay34_eq : k0_pay34 (a 0) (a 2) = outOf a := rfl

end Vals

/-! ## Loads and stores of the triple and of a landed slab -/

section Triple

variable (c : Dev nD)

theorem wp_ld_src (r : ℕ) (i : Fin 3) {off : Fin (shp i).rank → ℕ} {inb : ∀ a, off a + (shp i).size a ≤ (shp i).size a}
    {hl : (srcM i).view.LoadsAt (Rect.unit off (shp i).size inb).toLoadRect} {α : Type} {Q : α → sProp 𝕄} {k : Vec F (shp i) .f32 → Prog (TpuEff nD τ sig (Elt F) Λ₀ .tc) α} :
    sendPay A r i c
      ⊢ iprop((sendPay A r i c -∗ wp frame (wpE (defs₀ (F := F)) 𝒱₀ (c : Thread nD τ) none) Set.univ (k (st A r c i)) Q)
        -∗ wp frame (wpE (defs₀ (F := F)) 𝒱₀ (c : Thread nD τ) none) Set.univ (.op (.load (srcM i) (Rect.unit off (shp i).size inb).toLoadRect hl) k) Q) :=
  wp_load_full c (srcM i) (st A r c i)

theorem wp_st_src (r : ℕ) (i : Fin 3) (w : Vec F (shp i) .f32) (hw : w = st A (r + 1) c i)
    {off : Fin (shp i).rank → ℕ} {inb : ∀ a, off a + (shp i).size a ≤ (shp i).size a}
    {hx : ((srcM i).access (Rect.unit off (shp i).size inb)).Stores Finset.univ} {hm}
    {α : Type} {Q : α → sProp 𝕄} {k : PUnit → Prog (TpuEff nD τ sig (Elt F) Λ₀ .tc) α} :
    sendPay A r i c
      ⊢ iprop((sendPay A (r + 1) i c -∗ wp frame (wpE (defs₀ (F := F)) 𝒱₀ (c : Thread nD τ) none) Set.univ (k ⟨⟩) Q)
        -∗ wp frame (wpE (defs₀ (F := F)) 𝒱₀ (c : Thread nD τ) none) Set.univ (.op (.store (srcM i) (Rect.unit off (shp i).size inb) w Finset.univ hx hm) k) Q) := by
  subst hw
  exact wp_store_full c (srcM i) (st A r c i) _

theorem wp_ld_o (s : Fin 4) (n : ℕ) (hn : n = s.val) {inb : ∀ a, (![n, 0, 0, 0] : Fin 4 → ℕ) a + S1x16x16x64.size a ≤ S4x16x16x64.size a}
    {hl : (Memref.whole cc0_scratch3).view.LoadsAt (Rect.unit (s := S4x16x16x64) ![n, 0, 0, 0] S1x16x16x64.size inb).toLoadRect}
    {α : Type} {Q : α → sProp 𝕄} {k : Vec F S1x16x16x64 .f32 → Prog (TpuEff nD τ sig (Elt F) Λ₀ .tc) α} :
    gotRes A s 0 c
      ⊢ iprop((∀ Y, ⌜∀ h, shapeCast S16x16x64 Y h = st A s.val (pr s c) 0⌝ -∗ gotRes A s 0 c
            -∗ wp frame (wpE (defs₀ (F := F)) 𝒱₀ (c : Thread nD τ) none) Set.univ (k Y) Q)
        -∗ wp frame (wpE (defs₀ (F := F)) 𝒱₀ (c : Thread nD τ) none) Set.univ
            (.op (.load (Memref.whole cc0_scratch3) (Rect.unit (s := S4x16x16x64) ![n, 0, 0, 0] S1x16x16x64.size inb).toLoadRect hl) k) Q) := by
  subst hn
  unfold gotRes recvPay
  iintro ⟨H, Hat⟩ Hk
  have h : owns (c : Thread nD τ) (slab s 0) fullShare (st A s.val (pr s c) 0)
      ⊢ iprop((∀ Y, ⌜∀ h, shapeCast S16x16x64 Y h = st A s.val (pr s c) 0⌝ -∗ owns (c : Thread nD τ) (slab s 0) fullShare (st A s.val (pr s c) 0)
            -∗ wp frame (wpE (defs₀ (F := F)) 𝒱₀ (c : Thread nD τ) none) Set.univ (k Y) Q)
        -∗ wp frame (wpE (defs₀ (F := F)) 𝒱₀ (c : Thread nD τ) none) Set.univ
            (.op (.load (Memref.whole cc0_scratch3) (Rect.unit (s := S4x16x16x64) ![s.val, 0, 0, 0] S1x16x16x64.size inb).toLoadRect hl) k) Q) := by
    match s with
    | 0 => exact wp_load_slice c (Memref.whole cc0_scratch3) (sq := S16x16x64) _ (fun _ => rfl) squeezes_S1x16x16x64_S16x16x64 (st A 0 (pr 0 c) 0)
    | 1 => exact wp_load_slice c (Memref.whole cc0_scratch3) (sq := S16x16x64) _ (fun _ => rfl) squeezes_S1x16x16x64_S16x16x64 (st A 1 (pr 1 c) 0)
    | 2 => exact wp_load_slice c (Memref.whole cc0_scratch3) (sq := S16x16x64) _ (fun _ => rfl) squeezes_S1x16x16x64_S16x16x64 (st A 2 (pr 2 c) 0)
    | 3 => exact wp_load_slice c (Memref.whole cc0_scratch3) (sq := S16x16x64) _ (fun _ => rfl) squeezes_S1x16x16x64_S16x16x64 (st A 3 (pr 3 c) 0)
  iapply h $$ H
  iintro %Y %hY H
  iapply Hk $$ %Y %hY [H Hat]
  isplitl [H] <;> iassumption

theorem wp_ld_m (s : Fin 4) (n : ℕ) (hn : n = s.val) {inb : ∀ a, (![n, 0, 0, 0] : Fin 4 → ℕ) a + S1x16x16x1.size a ≤ S4x16x16x1.size a}
    {hl : (Memref.whole cc0_scratch4).view.LoadsAt (Rect.unit (s := S4x16x16x1) ![n, 0, 0, 0] S1x16x16x1.size inb).toLoadRect}
    {α : Type} {Q : α → sProp 𝕄} {k : Vec F S1x16x16x1 .f32 → Prog (TpuEff nD τ sig (Elt F) Λ₀ .tc) α} :
    gotRes A s 1 c
      ⊢ iprop((∀ Y, ⌜∀ h, shapeCast S16x16x1 Y h = st A s.val (pr s c) 1⌝ -∗ gotRes A s 1 c
            -∗ wp frame (wpE (defs₀ (F := F)) 𝒱₀ (c : Thread nD τ) none) Set.univ (k Y) Q)
        -∗ wp frame (wpE (defs₀ (F := F)) 𝒱₀ (c : Thread nD τ) none) Set.univ
            (.op (.load (Memref.whole cc0_scratch4) (Rect.unit (s := S4x16x16x1) ![n, 0, 0, 0] S1x16x16x1.size inb).toLoadRect hl) k) Q) := by
  subst hn
  unfold gotRes recvPay
  iintro ⟨H, Hat⟩ Hk
  have h : owns (c : Thread nD τ) (slab s 1) fullShare (st A s.val (pr s c) 1)
      ⊢ iprop((∀ Y, ⌜∀ h, shapeCast S16x16x1 Y h = st A s.val (pr s c) 1⌝ -∗ owns (c : Thread nD τ) (slab s 1) fullShare (st A s.val (pr s c) 1)
            -∗ wp frame (wpE (defs₀ (F := F)) 𝒱₀ (c : Thread nD τ) none) Set.univ (k Y) Q)
        -∗ wp frame (wpE (defs₀ (F := F)) 𝒱₀ (c : Thread nD τ) none) Set.univ
            (.op (.load (Memref.whole cc0_scratch4) (Rect.unit (s := S4x16x16x1) ![s.val, 0, 0, 0] S1x16x16x1.size inb).toLoadRect hl) k) Q) := by
    match s with
    | 0 => exact wp_load_slice c (Memref.whole cc0_scratch4) (sq := S16x16x1) _ (fun _ => rfl) squeezes_S1x16x16x1_S16x16x1 (st A 0 (pr 0 c) 1)
    | 1 => exact wp_load_slice c (Memref.whole cc0_scratch4) (sq := S16x16x1) _ (fun _ => rfl) squeezes_S1x16x16x1_S16x16x1 (st A 1 (pr 1 c) 1)
    | 2 => exact wp_load_slice c (Memref.whole cc0_scratch4) (sq := S16x16x1) _ (fun _ => rfl) squeezes_S1x16x16x1_S16x16x1 (st A 2 (pr 2 c) 1)
    | 3 => exact wp_load_slice c (Memref.whole cc0_scratch4) (sq := S16x16x1) _ (fun _ => rfl) squeezes_S1x16x16x1_S16x16x1 (st A 3 (pr 3 c) 1)
  iapply h $$ H
  iintro %Y %hY H
  iapply Hk $$ %Y %hY [H Hat]
  isplitl [H] <;> iassumption

theorem wp_ld_l (s : Fin 4) (n : ℕ) (hn : n = s.val) {inb : ∀ a, (![n, 0, 0, 0] : Fin 4 → ℕ) a + S1x16x16x1.size a ≤ S4x16x16x1.size a}
    {hl : (Memref.whole cc0_scratch5).view.LoadsAt (Rect.unit (s := S4x16x16x1) ![n, 0, 0, 0] S1x16x16x1.size inb).toLoadRect}
    {α : Type} {Q : α → sProp 𝕄} {k : Vec F S1x16x16x1 .f32 → Prog (TpuEff nD τ sig (Elt F) Λ₀ .tc) α} :
    gotRes A s 2 c
      ⊢ iprop((∀ Y, ⌜∀ h, shapeCast S16x16x1 Y h = st A s.val (pr s c) 2⌝ -∗ gotRes A s 2 c
            -∗ wp frame (wpE (defs₀ (F := F)) 𝒱₀ (c : Thread nD τ) none) Set.univ (k Y) Q)
        -∗ wp frame (wpE (defs₀ (F := F)) 𝒱₀ (c : Thread nD τ) none) Set.univ
            (.op (.load (Memref.whole cc0_scratch5) (Rect.unit (s := S4x16x16x1) ![n, 0, 0, 0] S1x16x16x1.size inb).toLoadRect hl) k) Q) := by
  subst hn
  unfold gotRes recvPay
  iintro ⟨H, Hat⟩ Hk
  have h : owns (c : Thread nD τ) (slab s 2) fullShare (st A s.val (pr s c) 2)
      ⊢ iprop((∀ Y, ⌜∀ h, shapeCast S16x16x1 Y h = st A s.val (pr s c) 2⌝ -∗ owns (c : Thread nD τ) (slab s 2) fullShare (st A s.val (pr s c) 2)
            -∗ wp frame (wpE (defs₀ (F := F)) 𝒱₀ (c : Thread nD τ) none) Set.univ (k Y) Q)
        -∗ wp frame (wpE (defs₀ (F := F)) 𝒱₀ (c : Thread nD τ) none) Set.univ
            (.op (.load (Memref.whole cc0_scratch5) (Rect.unit (s := S4x16x16x1) ![s.val, 0, 0, 0] S1x16x16x1.size inb).toLoadRect hl) k) Q) := by
    match s with
    | 0 => exact wp_load_slice c (Memref.whole cc0_scratch5) (sq := S16x16x1) _ (fun _ => rfl) squeezes_S1x16x16x1_S16x16x1 (st A 0 (pr 0 c) 2)
    | 1 => exact wp_load_slice c (Memref.whole cc0_scratch5) (sq := S16x16x1) _ (fun _ => rfl) squeezes_S1x16x16x1_S16x16x1 (st A 1 (pr 1 c) 2)
    | 2 => exact wp_load_slice c (Memref.whole cc0_scratch5) (sq := S16x16x1) _ (fun _ => rfl) squeezes_S1x16x16x1_S16x16x1 (st A 2 (pr 2 c) 2)
    | 3 => exact wp_load_slice c (Memref.whole cc0_scratch5) (sq := S16x16x1) _ (fun _ => rfl) squeezes_S1x16x16x1_S16x16x1 (st A 3 (pr 3 c) 2)
  iapply h $$ H
  iintro %Y %hY H
  iapply Hk $$ %Y %hY [H Hat]
  isplitl [H] <;> iassumption

end Triple

/-! ## The parts of the last grid point -/

section Parts

variable (i : grid0.Coords) (arg1 : Memref sig .tc .vmem S1x1x16x64 .bf16) (harg1 : arg1.IsWhole) (arg2 : Memref sig .tc .vmem S1x128x1024 .bf16) (harg2 : arg2.IsWhole)
  (arg3 : Memref sig .tc .vmem S1x128x1024 .bf16) (harg3 : arg3.IsWhole) (arg4 : Memref sig .tc .vmem S16x1x16x64 .f32) (harg4 : arg4.IsWhole)
  (c : Dev nD) (hk : k0_cond2 i = 1#1) (w1 w2 w3 w4 w5 w6 : BitVec 32)

/-- The first stage: the values and the maxima leave. -/
theorem part1_run {Q : PUnit → sProp 𝕄} :
    iprop(env A κ ∗ sendPay A 0 0 c ∗ copyRes 0 0 c ∗ sendPos 0 0 c ∗ ow c 12 ∗ sendPay A 0 1 c ∗ copyRes 0 1 c ∗ sendPos 0 1 c)
      ⊢ iprop((∀ r, (flight 0 0 c ∗ flight 0 1 c ∗ ow c 10) -∗ Q r)
        -∗ wp frame (wpE (defs₀ (F := F)) 𝒱₀ (c : Thread nD τ) none) Set.univ (k0_part1 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c w1 w2 w3 hk) Q) := by
  rw [k0_part1_eq_skeleton]; unfold k0_part1_skel
  simp only [Prog.lift, Prog.bind_op, Prog.bind_ret, Prog.pure_eq_ret]
  iintro ⟨#Henv, HS0, HC00, HP0, HO, HS1, HC01, HP1⟩ Hk
  iapply (wp_copy A κ 0 0 c _ (dev5_eq c _) 12 11 rfl rfl rfl rfl rfl rfl) $$ [HS0 HC00 HP0 HO]
  · isplitr; · iexact Henv
    isplitl [HS0]; · iexact HS0
    isplitl [HC00]; · iexact HC00
    isplitl [HP0]; · iexact HP0
    iexact HO
  iintro ⟨HP0, HO⟩
  iapply (wp_copy A κ 0 1 c _ (dev6_eq c _) 11 10 rfl rfl rfl rfl rfl rfl) $$ [HS1 HC01 HP1 HO]
  · isplitr; · iexact Henv
    isplitl [HS1]; · iexact HS1
    isplitl [HC01]; · iexact HC01
    isplitl [HP1]; · iexact HP1
    iexact HO
  iintro ⟨HP1, HO⟩
  rw [wp_ret]; imodintro
  iapply Hk $$ %_ [HP0 HP1 HO]
  isplitl [HP0]; · iexact HP0
  isplitl [HP1]; · iexact HP1
  iexact HO

/-- The sums leave; the values arrive. -/
theorem part2_run {Q : (Σ' (v133 : BitVec 32), BitVec 32) → sProp 𝕄} :
    iprop(env A κ ∗ sendPay A 0 2 c ∗ copyRes 0 2 c ∗ sendPos 0 2 c ∗ ow c 10 ∗ flight 0 0 c ∗ waitRes 0 0 c ∗ flight 0 1 c)
      ⊢ iprop((∀ r, (sendPay A 0 0 c ∗ sendPay A 0 1 c ∗ gotRes A 0 0 c ∗ sendPos 1 0 c ∗ sendPos 1 1 c ∗ flight 0 2 c ∗ ow c 9) -∗ Q r)
        -∗ wp frame (wpE (defs₀ (F := F)) 𝒱₀ (c : Thread nD τ) none) Set.univ (k0_part2 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c w1 w2 w3 hk) Q) := by
  rw [k0_part2_eq_skeleton]; unfold k0_part2_skel
  simp only [Prog.lift, Prog.bind_op, Prog.bind_ret, Prog.pure_eq_ret]
  iintro ⟨#Henv, HS2, HC02, HP2, HO, HP0, HW00, HP1⟩ Hk
  iapply (wp_copy A κ 0 2 c _ (dev7_eq c _) 10 9 rfl rfl rfl rfl rfl rfl) $$ [HS2 HC02 HP2 HO]
  · isplitr; · iexact Henv
    isplitl [HS2]; · iexact HS2
    isplitl [HC02]; · iexact HC02
    isplitl [HP2]; · iexact HP2
    iexact HO
  iintro ⟨HP2, HO⟩
  iapply (wp_wait_send A κ 0 0 c (by omega) 9 (by omega) rfl rfl) $$ [HP0 HO]
  · isplitr; · iexact Henv
    isplitl [HP0]; · iexact HP0
    iexact HO
  iintro ⟨HS0, HP0, HO⟩
  iapply (wp_wait_recv A κ 0 0 c 9 rfl rfl rfl) $$ [HW00 HO]
  · isplitr; · iexact Henv
    isplitl [HW00]; · iexact HW00
    iexact HO
  iintro ⟨HW00, HO⟩
  iapply (wp_wait_send A κ 0 1 c (by omega) 9 (by omega) rfl rfl) $$ [HP1 HO]
  · isplitr; · iexact Henv
    isplitl [HP1]; · iexact HP1
    iexact HO
  iintro ⟨HS1, HP1, HO⟩
  rw [wp_ret]; imodintro
  iapply Hk $$ %_ [HS0 HS1 HW00 HP0 HP1 HP2 HO]
  isplitl [HS0]; · iexact HS0
  isplitl [HS1]; · iexact HS1
  isplitl [HW00]; · iexact HW00
  isplitl [HP0]; · iexact HP0
  isplitl [HP1]; · iexact HP1
  isplitl [HP2]; · iexact HP2
  iexact HO

/-- The maxima and the sums arrive; the two maxima are compared. -/
theorem part3_run {Q : (Σ' (v159 : FVec F S16x16x1 .f32) (v160 : FVec F S16x16x1 .f32), FVec F S16x16x1 .f32) → sProp 𝕄} :
    iprop(env A κ ∗ waitRes 0 1 c ∗ ow c 9 ∗ flight 0 2 c ∗ waitRes 0 2 c ∗ sendPay A 0 1 c)
      ⊢ iprop(((sendPay A 0 1 c ∗ sendPay A 0 2 c ∗ gotRes A 0 1 c ∗ gotRes A 0 2 c ∗ sendPos 1 2 c ∗ ow c 9) -∗ Q ⟨(st A 0 (pr 0 c)) 1, mxOf (st A 0 c) (st A 0 (pr 0 c)), subf ((st A 0 c) 1) (mxOf (st A 0 c) (st A 0 (pr 0 c)))⟩)
        -∗ wp frame (wpE (defs₀ (F := F)) 𝒱₀ (c : Thread nD τ) none) Set.univ (k0_part3 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 w1 w2 w3 w4 w5) Q) := by
  rw [k0_part3_eq_skeleton]; unfold k0_part3_skel
  simp only [Prog.lift, Prog.bind_op, Prog.bind_ret, Prog.pure_eq_ret]
  iintro ⟨#Henv, HW01, HO, HP2, HW02, HS1⟩ Hk
  iapply (wp_wait_recv A κ 0 1 c 9 rfl rfl rfl) $$ [HW01 HO]
  · isplitr; · iexact Henv
    isplitl [HW01]; · iexact HW01
    iexact HO
  iintro ⟨HW01, HO⟩
  iapply (wp_wait_send A κ 0 2 c (by omega) 9 (by omega) rfl rfl) $$ [HP2 HO]
  · isplitr; · iexact Henv
    isplitl [HP2]; · iexact HP2
    iexact HO
  iintro ⟨HS2, HP2, HO⟩
  iapply (wp_wait_recv A κ 0 2 c 9 rfl rfl rfl) $$ [HW02 HO]
  · isplitr; · iexact Henv
    isplitl [HW02]; · iexact HW02
    iexact HO
  iintro ⟨HW02, HO⟩
  iapply (wp_ld_src A c 0 1) $$ HS1
  iintro HS1
  iapply (wp_ld_m A c 0 0 rfl) $$ HW01
  iintro %Y1 %hY1 HW01
  rw [pay1_eq (st A 0 (pr 0 c)) Y1 hY1, pay2_eq (st A 0 c) (st A 0 (pr 0 c)) Y1 hY1, pay3_eq (st A 0 c) (st A 0 (pr 0 c)) Y1 hY1]
  rw [wp_ret]; imodintro
  iapply Hk
  isplitl [HS1]; · iexact HS1
  isplitl [HS2]; · iexact HS2
  isplitl [HW01]; · iexact HW01
  isplitl [HW02]; · iexact HW02
  isplitl [HP2]; · iexact HP2
  iexact HO

/-- The first stage ends: the combined triple is stored. -/
theorem part4_run {Q : (Σ' (v189 : BitVec 32), BitVec 32) → sProp 𝕄} :
    iprop(env A κ ∗ sendPay A 0 0 c ∗ gotRes A 0 0 c ∗ sendPay A 0 2 c ∗ gotRes A 0 2 c ∗ sendPay A 0 1 c)
      ⊢ iprop((∀ r, (sendPay A 1 0 c ∗ sendPay A 1 1 c ∗ sendPay A 1 2 c ∗ gotRes A 0 0 c ∗ gotRes A 0 2 c) -∗ Q r)
        -∗ wp frame (wpE (defs₀ (F := F)) 𝒱₀ (c : Thread nD τ) none) Set.univ (k0_part4 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 w1 ((st A 0 (pr 0 c)) 1) (mxOf (st A 0 c) (st A 0 (pr 0 c))) (subf ((st A 0 c) 1) (mxOf (st A 0 c) (st A 0 (pr 0 c))))) Q) := by
  rw [k0_part4_eq_skeleton]; unfold k0_part4_skel
  simp only [Prog.lift, Prog.bind_op, Prog.bind_ret, Prog.pure_eq_ret]
  iintro ⟨#Henv, HS0, HW00, HS2, HW02, HS1⟩ Hk
  iapply (wp_ld_src A c 0 0) $$ HS0
  iintro HS0
  iapply (wp_ld_o A c 0 0 rfl) $$ HW00
  iintro %Y0 %hY0 HW00
  iapply (wp_ld_src A c 0 0) $$ HS0
  iintro HS0
  iapply (wp_st_src A c 0 0 _ (pay6_eq (st A 0 c) (st A 0 (pr 0 c)) Y0 hY0)) $$ HS0
  iintro HS0
  iapply (wp_ld_src A c 0 2) $$ HS2
  iintro HS2
  iapply (wp_ld_l A c 0 0 rfl) $$ HW02
  iintro %Y2 %hY2 HW02
  iapply (wp_ld_src A c 0 2) $$ HS2
  iintro HS2
  iapply (wp_st_src A c 0 2 _ (pay7_eq (st A 0 c) (st A 0 (pr 0 c)) Y2 hY2)) $$ HS2
  iintro HS2
  iapply (wp_ld_src A c 0 1) $$ HS1
  iintro HS1
  iapply (wp_st_src A c 0 1 _ (pay8_eq (st A 0 c) (st A 0 (pr 0 c)))) $$ HS1
  iintro HS1
  rw [wp_ret]; imodintro
  iapply Hk $$ %_ [HS0 HS1 HS2 HW00 HW02]
  isplitl [HS0]; · iexact HS0
  isplitl [HS1]; · iexact HS1
  isplitl [HS2]; · iexact HS2
  isplitl [HW00]; · iexact HW00
  iexact HW02

/-- The second stage: the values and the maxima leave. -/
theorem part5_run {Q : PUnit → sProp 𝕄} :
    iprop(env A κ ∗ sendPay A 1 0 c ∗ copyRes 1 0 c ∗ sendPos 1 0 c ∗ ow c 9 ∗ sendPay A 1 1 c ∗ copyRes 1 1 c ∗ sendPos 1 1 c)
      ⊢ iprop((∀ r, (flight 1 0 c ∗ flight 1 1 c ∗ ow c 7) -∗ Q r)
        -∗ wp frame (wpE (defs₀ (F := F)) 𝒱₀ (c : Thread nD τ) none) Set.univ (k0_part5 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c w1 w2 w3 hk w4 w5) Q) := by
  rw [k0_part5_eq_skeleton]; unfold k0_part5_skel
  simp only [Prog.lift, Prog.bind_op, Prog.bind_ret, Prog.pure_eq_ret]
  iintro ⟨#Henv, HS0, HC10, HP0, HO, HS1, HC11, HP1⟩ Hk
  iapply (wp_copy A κ 1 0 c _ (dev8_eq c _) 9 8 rfl rfl rfl rfl rfl rfl) $$ [HS0 HC10 HP0 HO]
  · isplitr; · iexact Henv
    isplitl [HS0]; · iexact HS0
    isplitl [HC10]; · iexact HC10
    isplitl [HP0]; · iexact HP0
    iexact HO
  iintro ⟨HP0, HO⟩
  iapply (wp_copy A κ 1 1 c _ (dev9_eq c _) 8 7 rfl rfl rfl rfl rfl rfl) $$ [HS1 HC11 HP1 HO]
  · isplitr; · iexact Henv
    isplitl [HS1]; · iexact HS1
    isplitl [HC11]; · iexact HC11
    isplitl [HP1]; · iexact HP1
    iexact HO
  iintro ⟨HP1, HO⟩
  rw [wp_ret]; imodintro
  iapply Hk $$ %_ [HP0 HP1 HO]
  isplitl [HP0]; · iexact HP0
  isplitl [HP1]; · iexact HP1
  iexact HO

/-- The sums leave; the values arrive. -/
theorem part6_run {Q : PUnit → sProp 𝕄} :
    iprop(env A κ ∗ sendPay A 1 2 c ∗ copyRes 1 2 c ∗ sendPos 1 2 c ∗ ow c 7 ∗ flight 1 0 c ∗ waitRes 1 0 c ∗ flight 1 1 c)
      ⊢ iprop((∀ r, (sendPay A 1 0 c ∗ sendPay A 1 1 c ∗ gotRes A 1 0 c ∗ sendPos 2 0 c ∗ sendPos 2 1 c ∗ flight 1 2 c ∗ ow c 6) -∗ Q r)
        -∗ wp frame (wpE (defs₀ (F := F)) 𝒱₀ (c : Thread nD τ) none) Set.univ (k0_part6 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c w1 w2 w3 hk) Q) := by
  rw [k0_part6_eq_skeleton]; unfold k0_part6_skel
  simp only [Prog.lift, Prog.bind_op, Prog.bind_ret, Prog.pure_eq_ret]
  iintro ⟨#Henv, HS2, HC12, HP2, HO, HP0, HW10, HP1⟩ Hk
  iapply (wp_copy A κ 1 2 c _ (dev10_eq c _) 7 6 rfl rfl rfl rfl rfl rfl) $$ [HS2 HC12 HP2 HO]
  · isplitr; · iexact Henv
    isplitl [HS2]; · iexact HS2
    isplitl [HC12]; · iexact HC12
    isplitl [HP2]; · iexact HP2
    iexact HO
  iintro ⟨HP2, HO⟩
  iapply (wp_wait_send A κ 1 0 c (by omega) 6 (by omega) rfl rfl) $$ [HP0 HO]
  · isplitr; · iexact Henv
    isplitl [HP0]; · iexact HP0
    iexact HO
  iintro ⟨HS0, HP0, HO⟩
  iapply (wp_wait_recv A κ 1 0 c 6 rfl rfl rfl) $$ [HW10 HO]
  · isplitr; · iexact Henv
    isplitl [HW10]; · iexact HW10
    iexact HO
  iintro ⟨HW10, HO⟩
  iapply (wp_wait_send A κ 1 1 c (by omega) 6 (by omega) rfl rfl) $$ [HP1 HO]
  · isplitr; · iexact Henv
    isplitl [HP1]; · iexact HP1
    iexact HO
  iintro ⟨HS1, HP1, HO⟩
  rw [wp_ret]; imodintro
  iapply Hk $$ %_ [HS0 HS1 HW10 HP0 HP1 HP2 HO]
  isplitl [HS0]; · iexact HS0
  isplitl [HS1]; · iexact HS1
  isplitl [HW10]; · iexact HW10
  isplitl [HP0]; · iexact HP0
  isplitl [HP1]; · iexact HP1
  isplitl [HP2]; · iexact HP2
  iexact HO

/-- The maxima and the sums arrive; the factors are formed. -/
theorem part7_run {Q : (Σ' (v269 : FVec F S16x16x1 .f32) (v271 : FVec F S16x16x1 .f32) (v273 : FVec F S16x16x1 .f32) (v274 : Vec F S16x16x64 .f32), FVec F S16x16x64 .f32) → sProp 𝕄} :
    iprop(env A κ ∗ waitRes 1 1 c ∗ ow c 6 ∗ flight 1 2 c ∗ waitRes 1 2 c ∗ sendPay A 1 1 c ∗ sendPay A 1 0 c)
      ⊢ iprop(((sendPay A 1 0 c ∗ sendPay A 1 1 c ∗ sendPay A 1 2 c ∗ gotRes A 1 1 c ∗ gotRes A 1 2 c ∗ sendPos 2 2 c ∗ ow c 6) -∗ Q ⟨mxOf (st A 1 c) (st A 1 (pr 1 c)), scOf (st A 1 c) (mxOf (st A 1 c) (st A 1 (pr 1 c))), scOf (st A 1 (pr 1 c)) (mxOf (st A 1 c) (st A 1 (pr 1 c))), (st A 1 c) 0, spread (scOf (st A 1 c) (mxOf (st A 1 c) (st A 1 (pr 1 c))))⟩)
        -∗ wp frame (wpE (defs₀ (F := F)) 𝒱₀ (c : Thread nD τ) none) Set.univ (k0_part7 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 w1 w2 w3) Q) := by
  rw [k0_part7_eq_skeleton]; unfold k0_part7_skel
  simp only [Prog.lift, Prog.bind_op, Prog.bind_ret, Prog.pure_eq_ret]
  iintro ⟨#Henv, HW11, HO, HP2, HW12, HS1, HS0⟩ Hk
  iapply (wp_wait_recv A κ 1 1 c 6 rfl rfl rfl) $$ [HW11 HO]
  · isplitr; · iexact Henv
    isplitl [HW11]; · iexact HW11
    iexact HO
  iintro ⟨HW11, HO⟩
  iapply (wp_wait_send A κ 1 2 c (by omega) 6 (by omega) rfl rfl) $$ [HP2 HO]
  · isplitr; · iexact Henv
    isplitl [HP2]; · iexact HP2
    iexact HO
  iintro ⟨HS2, HP2, HO⟩
  iapply (wp_wait_recv A κ 1 2 c 6 rfl rfl rfl) $$ [HW12 HO]
  · isplitr; · iexact Henv
    isplitl [HW12]; · iexact HW12
    iexact HO
  iintro ⟨HW12, HO⟩
  iapply (wp_ld_src A c 1 1) $$ HS1
  iintro HS1
  iapply (wp_ld_m A c 1 1 rfl) $$ HW11
  iintro %Y1 %hY1 HW11
  iapply (wp_ld_src A c 1 0) $$ HS0
  iintro HS0
  rw [pay10_eq (st A 1 c) (st A 1 (pr 1 c)) Y1 hY1, pay11_eq (st A 1 c) (st A 1 (pr 1 c)) Y1 hY1, pay12_eq (st A 1 c) (st A 1 (pr 1 c)) Y1 hY1, pay13_eq (st A 1 c) (st A 1 (pr 1 c)) Y1 hY1]
  rw [wp_ret]; imodintro
  iapply Hk
  isplitl [HS0]; · iexact HS0
  isplitl [HS1]; · iexact HS1
  isplitl [HS2]; · iexact HS2
  isplitl [HW11]; · iexact HW11
  isplitl [HW12]; · iexact HW12
  isplitl [HP2]; · iexact HP2
  iexact HO

/-- The second stage ends. -/
theorem part8_run {Q : PUnit → sProp 𝕄} :
    iprop(env A κ ∗ gotRes A 1 0 c ∗ sendPay A 1 0 c ∗ sendPay A 1 2 c ∗ gotRes A 1 2 c ∗ sendPay A 1 1 c)
      ⊢ iprop((∀ r, (sendPay A 2 0 c ∗ sendPay A 2 1 c ∗ sendPay A 2 2 c ∗ gotRes A 1 0 c ∗ gotRes A 1 2 c) -∗ Q r)
        -∗ wp frame (wpE (defs₀ (F := F)) 𝒱₀ (c : Thread nD τ) none) Set.univ (k0_part8 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 w1 w2 w3 (mxOf (st A 1 c) (st A 1 (pr 1 c))) (scOf (st A 1 c) (mxOf (st A 1 c) (st A 1 (pr 1 c)))) (scOf (st A 1 (pr 1 c)) (mxOf (st A 1 c) (st A 1 (pr 1 c)))) ((st A 1 c) 0) (spread (scOf (st A 1 c) (mxOf (st A 1 c) (st A 1 (pr 1 c)))))) Q) := by
  rw [k0_part8_eq_skeleton]; unfold k0_part8_skel
  simp only [Prog.lift, Prog.bind_op, Prog.bind_ret, Prog.pure_eq_ret]
  iintro ⟨#Henv, HW10, HS0, HS2, HW12, HS1⟩ Hk
  iapply (wp_ld_o A c 1 1 rfl) $$ HW10
  iintro %Y0 %hY0 HW10
  iapply (wp_ld_src A c 1 0) $$ HS0
  iintro HS0
  iapply (wp_st_src A c 1 0 _ (pay14_eq (st A 1 c) (st A 1 (pr 1 c)) Y0 hY0)) $$ HS0
  iintro HS0
  iapply (wp_ld_src A c 1 2) $$ HS2
  iintro HS2
  iapply (wp_ld_l A c 1 1 rfl) $$ HW12
  iintro %Y2 %hY2 HW12
  iapply (wp_ld_src A c 1 2) $$ HS2
  iintro HS2
  iapply (wp_st_src A c 1 2 _ (pay15_eq (st A 1 c) (st A 1 (pr 1 c)) Y2 hY2)) $$ HS2
  iintro HS2
  iapply (wp_ld_src A c 1 1) $$ HS1
  iintro HS1
  iapply (wp_st_src A c 1 1 _ (pay16_eq (st A 1 c) (st A 1 (pr 1 c)))) $$ HS1
  iintro HS1
  rw [wp_ret]; imodintro
  iapply Hk $$ %_ [HS0 HS1 HS2 HW10 HW12]
  isplitl [HS0]; · iexact HS0
  isplitl [HS1]; · iexact HS1
  isplitl [HS2]; · iexact HS2
  isplitl [HW10]; · iexact HW10
  iexact HW12

/-- The third stage: the triple leaves. -/
theorem part9_run {Q : PUnit → sProp 𝕄} :
    iprop(env A κ ∗ sendPay A 2 0 c ∗ copyRes 2 0 c ∗ sendPos 2 0 c ∗ ow c 6 ∗ sendPay A 2 1 c ∗ copyRes 2 1 c ∗ sendPos 2 1 c ∗ sendPay A 2 2 c ∗ copyRes 2 2 c ∗ sendPos 2 2 c)
      ⊢ iprop((∀ r, (flight 2 0 c ∗ flight 2 1 c ∗ flight 2 2 c ∗ ow c 3) -∗ Q r)
        -∗ wp frame (wpE (defs₀ (F := F)) 𝒱₀ (c : Thread nD τ) none) Set.univ (k0_part9 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c w1 w2 w3 hk) Q) := by
  rw [k0_part9_eq_skeleton]; unfold k0_part9_skel
  simp only [Prog.lift, Prog.bind_op, Prog.bind_ret, Prog.pure_eq_ret]
  iintro ⟨#Henv, HS0, HC20, HP0, HO, HS1, HC21, HP1, HS2, HC22, HP2⟩ Hk
  iapply (wp_copy A κ 2 0 c _ (dev11_eq c _) 6 5 rfl rfl rfl rfl rfl rfl) $$ [HS0 HC20 HP0 HO]
  · isplitr; · iexact Henv
    isplitl [HS0]; · iexact HS0
    isplitl [HC20]; · iexact HC20
    isplitl [HP0]; · iexact HP0
    iexact HO
  iintro ⟨HP0, HO⟩
  iapply (wp_copy A κ 2 1 c _ (dev12_eq c _) 5 4 rfl rfl rfl rfl rfl rfl) $$ [HS1 HC21 HP1 HO]
  · isplitr; · iexact Henv
    isplitl [HS1]; · iexact HS1
    isplitl [HC21]; · iexact HC21
    isplitl [HP1]; · iexact HP1
    iexact HO
  iintro ⟨HP1, HO⟩
  iapply (wp_copy A κ 2 2 c _ (dev13_eq c _) 4 3 rfl rfl rfl rfl rfl rfl) $$ [HS2 HC22 HP2 HO]
  · isplitr; · iexact Henv
    isplitl [HS2]; · iexact HS2
    isplitl [HC22]; · iexact HC22
    isplitl [HP2]; · iexact HP2
    iexact HO
  iintro ⟨HP2, HO⟩
  rw [wp_ret]; imodintro
  iapply Hk $$ %_ [HP0 HP1 HP2 HO]
  isplitl [HP0]; · iexact HP0
  isplitl [HP1]; · iexact HP1
  isplitl [HP2]; · iexact HP2
  iexact HO

/-- The values and the maxima arrive. -/
theorem part10_run {Q : PUnit → sProp 𝕄} :
    iprop(env A κ ∗ flight 2 0 c ∗ ow c 3 ∗ waitRes 2 0 c ∗ flight 2 1 c ∗ waitRes 2 1 c)
      ⊢ iprop((∀ r, (sendPay A 2 0 c ∗ sendPay A 2 1 c ∗ gotRes A 2 0 c ∗ gotRes A 2 1 c ∗ sendPos 3 0 c ∗ sendPos 3 1 c ∗ ow c 3) -∗ Q r)
        -∗ wp frame (wpE (defs₀ (F := F)) 𝒱₀ (c : Thread nD τ) none) Set.univ (k0_part10 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 w1 w2 w3) Q) := by
  rw [k0_part10_eq_skeleton]; unfold k0_part10_skel
  simp only [Prog.lift, Prog.bind_op, Prog.bind_ret, Prog.pure_eq_ret]
  iintro ⟨#Henv, HP0, HO, HW20, HP1, HW21⟩ Hk
  iapply (wp_wait_send A κ 2 0 c (by omega) 3 (by omega) rfl rfl) $$ [HP0 HO]
  · isplitr; · iexact Henv
    isplitl [HP0]; · iexact HP0
    iexact HO
  iintro ⟨HS0, HP0, HO⟩
  iapply (wp_wait_recv A κ 2 0 c 3 rfl rfl rfl) $$ [HW20 HO]
  · isplitr; · iexact Henv
    isplitl [HW20]; · iexact HW20
    iexact HO
  iintro ⟨HW20, HO⟩
  iapply (wp_wait_send A κ 2 1 c (by omega) 3 (by omega) rfl rfl) $$ [HP1 HO]
  · isplitr; · iexact Henv
    isplitl [HP1]; · iexact HP1
    iexact HO
  iintro ⟨HS1, HP1, HO⟩
  iapply (wp_wait_recv A κ 2 1 c 3 rfl rfl rfl) $$ [HW21 HO]
  · isplitr; · iexact Henv
    isplitl [HW21]; · iexact HW21
    iexact HO
  iintro ⟨HW21, HO⟩
  rw [wp_ret]; imodintro
  iapply Hk $$ %_ [HS0 HS1 HW20 HW21 HP0 HP1 HO]
  isplitl [HS0]; · iexact HS0
  isplitl [HS1]; · iexact HS1
  isplitl [HW20]; · iexact HW20
  isplitl [HW21]; · iexact HW21
  isplitl [HP0]; · iexact HP0
  isplitl [HP1]; · iexact HP1
  iexact HO

/-- The sums arrive; the factors are formed. -/
theorem part11_run {Q : (Σ' (v378 : FVec F S16x16x1 .f32) (v380 : FVec F S16x16x1 .f32) (v382 : FVec F S16x16x1 .f32) (v385 : FVec F S16x16x64 .f32) (v387 : FVec F S16x16x64 .f32), FVec F S16x16x64 .f32) → sProp 𝕄} :
    iprop(env A κ ∗ flight 2 2 c ∗ ow c 3 ∗ waitRes 2 2 c ∗ sendPay A 2 1 c ∗ gotRes A 2 1 c ∗ sendPay A 2 0 c ∗ gotRes A 2 0 c)
      ⊢ iprop(((sendPay A 2 0 c ∗ sendPay A 2 1 c ∗ sendPay A 2 2 c ∗ gotRes A 2 2 c ∗ gotRes A 2 1 c ∗ gotRes A 2 0 c ∗ sendPos 3 2 c ∗ ow c 3) -∗ Q ⟨mxOf (st A 2 c) (st A 2 (pr 2 c)), scOf (st A 2 c) (mxOf (st A 2 c) (st A 2 (pr 2 c))), scOf (st A 2 (pr 2 c)) (mxOf (st A 2 c) (st A 2 (pr 2 c))), mulf (spread (scOf (st A 2 c) (mxOf (st A 2 c) (st A 2 (pr 2 c))))) ((st A 2 c) 0), (st A 2 (pr 2 c)) 0, spread (scOf (st A 2 (pr 2 c)) (mxOf (st A 2 c) (st A 2 (pr 2 c))))⟩)
        -∗ wp frame (wpE (defs₀ (F := F)) 𝒱₀ (c : Thread nD τ) none) Set.univ (k0_part11 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 w1 w2 w3) Q) := by
  rw [k0_part11_eq_skeleton]; unfold k0_part11_skel
  simp only [Prog.lift, Prog.bind_op, Prog.bind_ret, Prog.pure_eq_ret]
  iintro ⟨#Henv, HP2, HO, HW22, HS1, HW21, HS0, HW20⟩ Hk
  iapply (wp_wait_send A κ 2 2 c (by omega) 3 (by omega) rfl rfl) $$ [HP2 HO]
  · isplitr; · iexact Henv
    isplitl [HP2]; · iexact HP2
    iexact HO
  iintro ⟨HS2, HP2, HO⟩
  iapply (wp_wait_recv A κ 2 2 c 3 rfl rfl rfl) $$ [HW22 HO]
  · isplitr; · iexact Henv
    isplitl [HW22]; · iexact HW22
    iexact HO
  iintro ⟨HW22, HO⟩
  iapply (wp_ld_src A c 2 1) $$ HS1
  iintro HS1
  iapply (wp_ld_m A c 2 2 rfl) $$ HW21
  iintro %Y1 %hY1 HW21
  iapply (wp_ld_src A c 2 0) $$ HS0
  iintro HS0
  iapply (wp_ld_o A c 2 2 rfl) $$ HW20
  iintro %Y0 %hY0 HW20
  rw [pay18_eq (st A 2 c) (st A 2 (pr 2 c)) Y1 hY1, pay19_eq (st A 2 c) (st A 2 (pr 2 c)) Y1 hY1, pay20_eq (st A 2 c) (st A 2 (pr 2 c)) Y1 hY1, pay21_eq (st A 2 c) (st A 2 (pr 2 c)) Y1 hY1, pay22_eq (st A 2 (pr 2 c)) Y0 hY0, pay23_eq (st A 2 c) (st A 2 (pr 2 c)) Y1 hY1]
  rw [wp_ret]; imodintro
  iapply Hk
  isplitl [HS0]; · iexact HS0
  isplitl [HS1]; · iexact HS1
  isplitl [HS2]; · iexact HS2
  isplitl [HW22]; · iexact HW22
  isplitl [HW21]; · iexact HW21
  isplitl [HW20]; · iexact HW20
  isplitl [HP2]; · iexact HP2
  iexact HO

/-- The third stage ends; the values of the last stage leave. -/
theorem part12_run {Q : PUnit → sProp 𝕄} :
    iprop(env A κ ∗ sendPay A 2 0 c ∗ sendPay A 2 2 c ∗ gotRes A 2 2 c ∗ sendPay A 2 1 c ∗ copyRes 3 0 c ∗ sendPos 3 0 c ∗ ow c 3)
      ⊢ iprop((∀ r, (sendPay A 3 1 c ∗ sendPay A 3 2 c ∗ gotRes A 2 2 c ∗ flight 3 0 c ∗ ow c 2) -∗ Q r)
        -∗ wp frame (wpE (defs₀ (F := F)) 𝒱₀ (c : Thread nD τ) none) Set.univ (k0_part12 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c w1 w2 w3 hk (mxOf (st A 2 c) (st A 2 (pr 2 c))) (scOf (st A 2 c) (mxOf (st A 2 c) (st A 2 (pr 2 c)))) (scOf (st A 2 (pr 2 c)) (mxOf (st A 2 c) (st A 2 (pr 2 c)))) (mulf (spread (scOf (st A 2 c) (mxOf (st A 2 c) (st A 2 (pr 2 c))))) ((st A 2 c) 0)) ((st A 2 (pr 2 c)) 0) (spread (scOf (st A 2 (pr 2 c)) (mxOf (st A 2 c) (st A 2 (pr 2 c)))))) Q) := by
  rw [k0_part12_eq_skeleton]; unfold k0_part12_skel
  simp only [Prog.lift, Prog.bind_op, Prog.bind_ret, Prog.pure_eq_ret]
  iintro ⟨#Henv, HS0, HS2, HW22, HS1, HC30, HP0, HO⟩ Hk
  iapply (wp_ld_src A c 2 0) $$ HS0
  iintro HS0
  iapply (wp_st_src A c 2 0 _ (pay24_eq (st A 2 c) (st A 2 (pr 2 c)))) $$ HS0
  iintro HS0
  iapply (wp_ld_src A c 2 2) $$ HS2
  iintro HS2
  iapply (wp_ld_l A c 2 2 rfl) $$ HW22
  iintro %Y2 %hY2 HW22
  iapply (wp_ld_src A c 2 2) $$ HS2
  iintro HS2
  iapply (wp_st_src A c 2 2 _ (pay25_eq (st A 2 c) (st A 2 (pr 2 c)) Y2 hY2)) $$ HS2
  iintro HS2
  iapply (wp_ld_src A c 2 1) $$ HS1
  iintro HS1
  iapply (wp_st_src A c 2 1 _ (pay26_eq (st A 2 c) (st A 2 (pr 2 c)))) $$ HS1
  iintro HS1
  iapply (wp_copy A κ 3 0 c _ (dev14_eq c _) 3 2 rfl rfl rfl rfl rfl rfl) $$ [HS0 HC30 HP0 HO]
  · isplitr; · iexact Henv
    isplitl [HS0]; · iexact HS0
    isplitl [HC30]; · iexact HC30
    isplitl [HP0]; · iexact HP0
    iexact HO
  iintro ⟨HP0, HO⟩
  rw [wp_ret]; imodintro
  iapply Hk $$ %_ [HS1 HS2 HW22 HP0 HO]
  isplitl [HS1]; · iexact HS1
  isplitl [HS2]; · iexact HS2
  isplitl [HW22]; · iexact HW22
  isplitl [HP0]; · iexact HP0
  iexact HO

/-- The maxima and the sums of the last stage leave. -/
theorem part13_run {Q : PUnit → sProp 𝕄} :
    iprop(env A κ ∗ sendPay A 3 1 c ∗ copyRes 3 1 c ∗ sendPos 3 1 c ∗ ow c 2 ∗ sendPay A 3 2 c ∗ copyRes 3 2 c ∗ sendPos 3 2 c ∗ flight 3 0 c)
      ⊢ iprop((∀ r, (sendPay A 3 0 c ∗ sendPos 4 0 c ∗ flight 3 1 c ∗ flight 3 2 c ∗ ow c 0) -∗ Q r)
        -∗ wp frame (wpE (defs₀ (F := F)) 𝒱₀ (c : Thread nD τ) none) Set.univ (k0_part13 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c w1 w2 w3 hk) Q) := by
  rw [k0_part13_eq_skeleton]; unfold k0_part13_skel
  simp only [Prog.lift, Prog.bind_op, Prog.bind_ret, Prog.pure_eq_ret]
  iintro ⟨#Henv, HS1, HC31, HP1, HO, HS2, HC32, HP2, HP0⟩ Hk
  iapply (wp_copy A κ 3 1 c _ (dev15_eq c _) 2 1 rfl rfl rfl rfl rfl rfl) $$ [HS1 HC31 HP1 HO]
  · isplitr; · iexact Henv
    isplitl [HS1]; · iexact HS1
    isplitl [HC31]; · iexact HC31
    isplitl [HP1]; · iexact HP1
    iexact HO
  iintro ⟨HP1, HO⟩
  iapply (wp_copy A κ 3 2 c _ (dev16_eq c _) 1 0 rfl rfl rfl rfl rfl rfl) $$ [HS2 HC32 HP2 HO]
  · isplitr; · iexact Henv
    isplitl [HS2]; · iexact HS2
    isplitl [HC32]; · iexact HC32
    isplitl [HP2]; · iexact HP2
    iexact HO
  iintro ⟨HP2, HO⟩
  iapply (wp_wait_send A κ 3 0 c (by omega) 0 (by omega) rfl rfl) $$ [HP0 HO]
  · isplitr; · iexact Henv
    isplitl [HP0]; · iexact HP0
    iexact HO
  iintro ⟨HS0, HP0, HO⟩
  rw [wp_ret]; imodintro
  iapply Hk $$ %_ [HS0 HP0 HP1 HP2 HO]
  isplitl [HS0]; · iexact HS0
  isplitl [HP0]; · iexact HP0
  isplitl [HP1]; · iexact HP1
  isplitl [HP2]; · iexact HP2
  iexact HO

/-- The values and the maxima arrive. -/
theorem part14_run {Q : PUnit → sProp 𝕄} :
    iprop(env A κ ∗ waitRes 3 0 c ∗ ow c 0 ∗ flight 3 1 c ∗ waitRes 3 1 c)
      ⊢ iprop((∀ r, (sendPay A 3 1 c ∗ gotRes A 3 0 c ∗ gotRes A 3 1 c ∗ sendPos 4 1 c ∗ ow c 0) -∗ Q r)
        -∗ wp frame (wpE (defs₀ (F := F)) 𝒱₀ (c : Thread nD τ) none) Set.univ (k0_part14 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 w1 w2 w3) Q) := by
  rw [k0_part14_eq_skeleton]; unfold k0_part14_skel
  simp only [Prog.lift, Prog.bind_op, Prog.bind_ret, Prog.pure_eq_ret]
  iintro ⟨#Henv, HW30, HO, HP1, HW31⟩ Hk
  iapply (wp_wait_recv A κ 3 0 c 0 rfl rfl rfl) $$ [HW30 HO]
  · isplitr; · iexact Henv
    isplitl [HW30]; · iexact HW30
    iexact HO
  iintro ⟨HW30, HO⟩
  iapply (wp_wait_send A κ 3 1 c (by omega) 0 (by omega) rfl rfl) $$ [HP1 HO]
  · isplitr; · iexact Henv
    isplitl [HP1]; · iexact HP1
    iexact HO
  iintro ⟨HS1, HP1, HO⟩
  iapply (wp_wait_recv A κ 3 1 c 0 rfl rfl rfl) $$ [HW31 HO]
  · isplitr; · iexact Henv
    isplitl [HW31]; · iexact HW31
    iexact HO
  iintro ⟨HW31, HO⟩
  rw [wp_ret]; imodintro
  iapply Hk $$ %_ [HS1 HW30 HW31 HP1 HO]
  isplitl [HS1]; · iexact HS1
  isplitl [HW30]; · iexact HW30
  isplitl [HW31]; · iexact HW31
  isplitl [HP1]; · iexact HP1
  iexact HO

/-- The sums arrive; the combined values are formed. -/
theorem part15_run {Q : (Σ' (v487 : FVec F S16x16x1 .f32) (v489 : FVec F S16x16x1 .f32) (v491 : FVec F S16x16x1 .f32), FVec F S16x16x64 .f32) → sProp 𝕄} :
    iprop(env A κ ∗ flight 3 2 c ∗ ow c 0 ∗ waitRes 3 2 c ∗ sendPay A 3 1 c ∗ gotRes A 3 1 c ∗ sendPay A 3 0 c ∗ gotRes A 3 0 c)
      ⊢ iprop(((sendPay A 3 0 c ∗ sendPay A 3 1 c ∗ sendPay A 3 2 c ∗ gotRes A 3 2 c ∗ gotRes A 3 1 c ∗ gotRes A 3 0 c ∗ sendPos 4 2 c ∗ ow c 0) -∗ Q ⟨mxOf (st A 3 c) (st A 3 (pr 3 c)), scOf (st A 3 c) (mxOf (st A 3 c) (st A 3 (pr 3 c))), scOf (st A 3 (pr 3 c)) (mxOf (st A 3 c) (st A 3 (pr 3 c))), comb (st A 3 c) (st A 3 (pr 3 c)) 0⟩)
        -∗ wp frame (wpE (defs₀ (F := F)) 𝒱₀ (c : Thread nD τ) none) Set.univ (k0_part15 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 w1 w2 w3) Q) := by
  rw [k0_part15_eq_skeleton]; unfold k0_part15_skel
  simp only [Prog.lift, Prog.bind_op, Prog.bind_ret, Prog.pure_eq_ret]
  iintro ⟨#Henv, HP2, HO, HW32, HS1, HW31, HS0, HW30⟩ Hk
  iapply (wp_wait_send A κ 3 2 c (by omega) 0 (by omega) rfl rfl) $$ [HP2 HO]
  · isplitr; · iexact Henv
    isplitl [HP2]; · iexact HP2
    iexact HO
  iintro ⟨HS2, HP2, HO⟩
  iapply (wp_wait_recv A κ 3 2 c 0 rfl rfl rfl) $$ [HW32 HO]
  · isplitr; · iexact Henv
    isplitl [HW32]; · iexact HW32
    iexact HO
  iintro ⟨HW32, HO⟩
  iapply (wp_ld_src A c 3 1) $$ HS1
  iintro HS1
  iapply (wp_ld_m A c 3 3 rfl) $$ HW31
  iintro %Y1 %hY1 HW31
  iapply (wp_ld_src A c 3 0) $$ HS0
  iintro HS0
  iapply (wp_ld_o A c 3 3 rfl) $$ HW30
  iintro %Y0 %hY0 HW30
  iapply (wp_ld_src A c 3 0) $$ HS0
  iintro HS0
  rw [pay28_eq (st A 3 c) (st A 3 (pr 3 c)) Y1 hY1, pay29_eq (st A 3 c) (st A 3 (pr 3 c)) Y1 hY1, pay30_eq (st A 3 c) (st A 3 (pr 3 c)) Y1 hY1, pay31_eq (st A 3 c) (st A 3 (pr 3 c)) Y1 Y0 hY0 hY1]
  rw [wp_ret]; imodintro
  iapply Hk
  isplitl [HS0]; · iexact HS0
  isplitl [HS1]; · iexact HS1
  isplitl [HS2]; · iexact HS2
  isplitl [HW32]; · iexact HW32
  isplitl [HW31]; · iexact HW31
  isplitl [HW30]; · iexact HW30
  isplitl [HP2]; · iexact HP2
  iexact HO

end Parts

end Cert.KernelIdeal.Exchange

end
-- ==== Proof.Last.lean ====
/- The last grid point's exchange, from the triple of the own keys to the output block. -/
module

public import proofs.«01_k».proof.Proof.Stages

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ UU ℕ

variable (A : Dev nD → Trip F)

variable (κ : GSem nD τ sig → ℕ)

/-- The triple's three buffers at stage `r`. -/
def tri (r : ℕ) (c : Dev nD) : sProp 𝕄 := iprop(sendPay A r 0 c ∗ sendPay A r 1 c ∗ sendPay A r 2 c)
/-- The three send semaphores before the copies of stage `r`. -/
def sendPoss (r : ℕ) (c : Dev nD) : sProp 𝕄 := iprop(sendPos r 0 c ∗ sendPos r 1 c ∗ sendPos r 2 c)
/-- The twelve copies' resources. -/
def copies (c : Dev nD) : sProp 𝕄 := bigSep Finset.univ fun s : Fin 4 => bigSep Finset.univ fun i : Fin 3 => copyRes s i c
/-- The twelve receives' resources. -/
def waits (c : Dev nD) : sProp 𝕄 := bigSep Finset.univ fun s : Fin 4 => bigSep Finset.univ fun i : Fin 3 => waitRes s i c
/-- The twelve landed slabs. -/
def gots (c : Dev nD) : sProp 𝕄 := bigSep Finset.univ fun s : Fin 4 => bigSep Finset.univ fun i : Fin 3 => gotRes A s i c

section Last

variable (i : grid0.Coords) (arg1 : Memref sig .tc .vmem S1x1x16x64 .bf16) (harg1 : arg1.IsWhole) (arg2 : Memref sig .tc .vmem S1x128x1024 .bf16) (harg2 : arg2.IsWhole)
  (arg3 : Memref sig .tc .vmem S1x128x1024 .bf16) (harg3 : arg3.IsWhole) (arg4 : Memref sig .tc .vmem S16x1x16x64 .f32) (harg4 : arg4.IsWhole)
  (c : Dev nD) (hk : k0_cond2 i = 1#1) (w2 w5 w8 w9 w10 w11 w12 : BitVec 32)

/-- The whole exchange. -/
theorem part16_run (X : Vec F S16x1x16x64 .f32) {Q : PUnit → sProp 𝕄} :
    iprop(env A κ ∗ tri A 0 c ∗ copies c ∗ waits c ∗ sendPoss 0 c ∗ ow c 12 ∗ owns (c : Thread nD τ) arg4 fullShare X)
      ⊢ iprop((tri A 4 c ∗ gots A c ∗ sendPoss 4 c ∗ ow c 0 ∗ owns (c : Thread nD τ) arg4 fullShare (outOf (st A 4 c)) -∗ Q ⟨⟩)
        -∗ wp frame (wpE (defs₀ (F := F)) 𝒱₀ (c : Thread nD τ) none) Set.univ (k0_part16 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 c w2 w5 w8 w9 w10 w11 w12 hk) Q) := by
  rw [k0_part16_eq_skeleton]; unfold k0_part16_skel
  simp only [Prog.lift, Prog.bind_op, Prog.bind_ret, Prog.pure_eq_ret]
  unfold tri copies waits gots sendPoss
  simp only [bigSep_stages, bigSep_comps]
  iintro ⟨#Henv, ⟨HS0, HS1, HS2⟩, ⟨⟨HC00, HC01, HC02⟩, ⟨HC10, HC11, HC12⟩, ⟨HC20, HC21, HC22⟩, ⟨HC30, HC31, HC32⟩⟩, ⟨⟨HW00, HW01, HW02⟩, ⟨HW10, HW11, HW12⟩, ⟨HW20, HW21, HW22⟩, ⟨HW30, HW31, HW32⟩⟩, ⟨HP0, HP1, HP2⟩, HO, H4⟩ Hk
  rw [wp_bind]
  iapply (part1_run A κ i arg1 harg1 arg2 harg2 arg3 harg3 arg4 harg4 c hk w5 w8 w9) $$ [HS0 HC00 HP0 HO HS1 HC01 HP1]
  · isplitr; · iexact Henv
    isplitl [HS0]; · iexact HS0
    isplitl [HC00]; · iexact HC00
    isplitl [HP0]; · iexact HP0
    isplitl [HO]; · iexact HO
    isplitl [HS1]; · iexact HS1
    isplitl [HC01]; · iexact HC01
    iexact HP1
  iintro %r ⟨HP0, HP1, HO⟩
  rw [wp_bind]
  iapply (part2_run A κ i arg1 harg1 arg2 harg2 arg3 harg3 arg4 harg4 c hk w5 w8 w9) $$ [HS2 HC02 HP2 HO HP0 HW00 HP1]
  · isplitr; · iexact Henv
    isplitl [HS2]; · iexact HS2
    isplitl [HC02]; · iexact HC02
    isplitl [HP2]; · iexact HP2
    isplitl [HO]; · iexact HO
    isplitl [HP0]; · iexact HP0
    isplitl [HW00]; · iexact HW00
    iexact HP1
  iintro %r ⟨HS0, HS1, HW00, HP0, HP1, HP2, HO⟩
  obtain ⟨r1, r2⟩ := r
  dsimp only
  rw [wp_bind]
  iapply (part3_run A κ i arg1 harg1 arg2 harg2 arg3 harg3 arg4 harg4 c w5 w8 w9 r1 r2) $$ [HW01 HO HP2 HW02 HS1]
  · isplitr; · iexact Henv
    isplitl [HW01]; · iexact HW01
    isplitl [HO]; · iexact HO
    isplitl [HP2]; · iexact HP2
    isplitl [HW02]; · iexact HW02
    iexact HS1
  iintro ⟨HS1, HS2, HW01, HW02, HP2, HO⟩
  rw [wp_bind]
  iapply (part4_run A κ i arg1 harg1 arg2 harg2 arg3 harg3 arg4 harg4 c w2) $$ [HS0 HW00 HS2 HW02 HS1]
  · isplitr; · iexact Henv
    isplitl [HS0]; · iexact HS0
    isplitl [HW00]; · iexact HW00
    isplitl [HS2]; · iexact HS2
    isplitl [HW02]; · iexact HW02
    iexact HS1
  iintro %r ⟨HS0, HS1, HS2, HW00, HW02⟩
  obtain ⟨r1, r2⟩ := r
  dsimp only
  rw [wp_bind]
  iapply (part5_run A κ i arg1 harg1 arg2 harg2 arg3 harg3 arg4 harg4 c hk w2 w8 w10 r1 r2) $$ [HS0 HC10 HP0 HO HS1 HC11 HP1]
  · isplitr; · iexact Henv
    isplitl [HS0]; · iexact HS0
    isplitl [HC10]; · iexact HC10
    isplitl [HP0]; · iexact HP0
    isplitl [HO]; · iexact HO
    isplitl [HS1]; · iexact HS1
    isplitl [HC11]; · iexact HC11
    iexact HP1
  iintro %r ⟨HP0, HP1, HO⟩
  rw [wp_bind]
  iapply (part6_run A κ i arg1 harg1 arg2 harg2 arg3 harg3 arg4 harg4 c hk w2 w8 w10) $$ [HS2 HC12 HP2 HO HP0 HW10 HP1]
  · isplitr; · iexact Henv
    isplitl [HS2]; · iexact HS2
    isplitl [HC12]; · iexact HC12
    isplitl [HP2]; · iexact HP2
    isplitl [HO]; · iexact HO
    isplitl [HP0]; · iexact HP0
    isplitl [HW10]; · iexact HW10
    iexact HP1
  iintro %r ⟨HS0, HS1, HW10, HP0, HP1, HP2, HO⟩
  rw [wp_bind]
  iapply (part7_run A κ i arg1 harg1 arg2 harg2 arg3 harg3 arg4 harg4 c w2 w8 w10) $$ [HW11 HO HP2 HW12 HS1 HS0]
  · isplitr; · iexact Henv
    isplitl [HW11]; · iexact HW11
    isplitl [HO]; · iexact HO
    isplitl [HP2]; · iexact HP2
    isplitl [HW12]; · iexact HW12
    isplitl [HS1]; · iexact HS1
    iexact HS0
  iintro ⟨HS0, HS1, HS2, HW11, HW12, HP2, HO⟩
  rw [wp_bind]
  iapply (part8_run A κ i arg1 harg1 arg2 harg2 arg3 harg3 arg4 harg4 c w2 w5 w11) $$ [HW10 HS0 HS2 HW12 HS1]
  · isplitr; · iexact Henv
    isplitl [HW10]; · iexact HW10
    isplitl [HS0]; · iexact HS0
    isplitl [HS2]; · iexact HS2
    isplitl [HW12]; · iexact HW12
    iexact HS1
  iintro %r ⟨HS0, HS1, HS2, HW10, HW12⟩
  rw [wp_bind]
  iapply (part9_run A κ i arg1 harg1 arg2 harg2 arg3 harg3 arg4 harg4 c hk w2 w5 w11) $$ [HS0 HC20 HP0 HO HS1 HC21 HP1 HS2 HC22 HP2]
  · isplitr; · iexact Henv
    isplitl [HS0]; · iexact HS0
    isplitl [HC20]; · iexact HC20
    isplitl [HP0]; · iexact HP0
    isplitl [HO]; · iexact HO
    isplitl [HS1]; · iexact HS1
    isplitl [HC21]; · iexact HC21
    isplitl [HP1]; · iexact HP1
    isplitl [HS2]; · iexact HS2
    isplitl [HC22]; · iexact HC22
    iexact HP2
  iintro %r ⟨HP0, HP1, HP2, HO⟩
  rw [wp_bind]
  iapply (part10_run A κ i arg1 harg1 arg2 harg2 arg3 harg3 arg4 harg4 c w2 w5 w11) $$ [HP0 HO HW20 HP1 HW21]
  · isplitr; · iexact Henv
    isplitl [HP0]; · iexact HP0
    isplitl [HO]; · iexact HO
    isplitl [HW20]; · iexact HW20
    isplitl [HP1]; · iexact HP1
    iexact HW21
  iintro %r ⟨HS0, HS1, HW20, HW21, HP0, HP1, HO⟩
  rw [wp_bind]
  iapply (part11_run A κ i arg1 harg1 arg2 harg2 arg3 harg3 arg4 harg4 c w2 w5 w11) $$ [HP2 HO HW22 HS1 HW21 HS0 HW20]
  · isplitr; · iexact Henv
    isplitl [HP2]; · iexact HP2
    isplitl [HO]; · iexact HO
    isplitl [HW22]; · iexact HW22
    isplitl [HS1]; · iexact HS1
    isplitl [HW21]; · iexact HW21
    isplitl [HS0]; · iexact HS0
    iexact HW20
  iintro ⟨HS0, HS1, HS2, HW22, HW21, HW20, HP2, HO⟩
  rw [wp_bind]
  iapply (part12_run A κ i arg1 harg1 arg2 harg2 arg3 harg3 arg4 harg4 c hk w2 w5 w12) $$ [HS0 HS2 HW22 HS1 HC30 HP0 HO]
  · isplitr; · iexact Henv
    isplitl [HS0]; · iexact HS0
    isplitl [HS2]; · iexact HS2
    isplitl [HW22]; · iexact HW22
    isplitl [HS1]; · iexact HS1
    isplitl [HC30]; · iexact HC30
    isplitl [HP0]; · iexact HP0
    iexact HO
  iintro %r ⟨HS1, HS2, HW22, HP0, HO⟩
  rw [wp_bind]
  iapply (part13_run A κ i arg1 harg1 arg2 harg2 arg3 harg3 arg4 harg4 c hk w2 w5 w12) $$ [HS1 HC31 HP1 HO HS2 HC32 HP2 HP0]
  · isplitr; · iexact Henv
    isplitl [HS1]; · iexact HS1
    isplitl [HC31]; · iexact HC31
    isplitl [HP1]; · iexact HP1
    isplitl [HO]; · iexact HO
    isplitl [HS2]; · iexact HS2
    isplitl [HC32]; · iexact HC32
    isplitl [HP2]; · iexact HP2
    iexact HP0
  iintro %r ⟨HS0, HP0, HP1, HP2, HO⟩
  rw [wp_bind]
  iapply (part14_run A κ i arg1 harg1 arg2 harg2 arg3 harg3 arg4 harg4 c w2 w5 w12) $$ [HW30 HO HP1 HW31]
  · isplitr; · iexact Henv
    isplitl [HW30]; · iexact HW30
    isplitl [HO]; · iexact HO
    isplitl [HP1]; · iexact HP1
    iexact HW31
  iintro %r ⟨HS1, HW30, HW31, HP1, HO⟩
  rw [wp_bind]
  iapply (part15_run A κ i arg1 harg1 arg2 harg2 arg3 harg3 arg4 harg4 c w2 w5 w12) $$ [HP2 HO HW32 HS1 HW31 HS0 HW30]
  · isplitr; · iexact Henv
    isplitl [HP2]; · iexact HP2
    isplitl [HO]; · iexact HO
    isplitl [HW32]; · iexact HW32
    isplitl [HS1]; · iexact HS1
    isplitl [HW31]; · iexact HW31
    isplitl [HS0]; · iexact HS0
    iexact HW30
  iintro ⟨HS0, HS1, HS2, HW32, HW31, HW30, HP2, HO⟩
  iapply (wp_st_src A c 3 0 _ rfl) $$ HS0
  iintro HS0
  iapply (wp_ld_src A c 3 2) $$ HS2
  iintro HS2
  iapply (wp_ld_l A c 3 3 rfl) $$ HW32
  iintro %Y2 %hY2 HW32
  iapply (wp_ld_src A c 3 2) $$ HS2
  iintro HS2
  iapply (wp_st_src A c 3 2 _ (pay32_eq (st A 3 c) (st A 3 (pr 3 c)) Y2 hY2)) $$ HS2
  iintro HS2
  iapply (wp_ld_src A c 3 1) $$ HS1
  iintro HS1
  iapply (wp_st_src A c 3 1 _ (pay33_eq (st A 3 c) (st A 3 (pr 3 c)))) $$ HS1
  iintro HS1
  iapply (wp_ld_src A c 4 0) $$ HS0
  iintro HS0
  iapply (wp_ld_src A c 4 2) $$ HS2
  iintro HS2
  iapply (wp_load_full c arg4 X) $$ H4
  iintro H4
  iapply (wp_store_full c arg4 X _) $$ H4
  iintro H4
  rw [wp_ret]; imodintro
  iapply Hk
  isplitl [HS0 HS1 HS2]
  · isplitl [HS0]; · iexact HS0
    isplitl [HS1]; · iexact HS1
    iexact HS2
  isplitl [HW00 HW01 HW02 HW10 HW11 HW12 HW20 HW21 HW22 HW30 HW31 HW32]
  · isplitl [HW00 HW01 HW02]
    · isplitl [HW00]; · iexact HW00
      isplitl [HW01]; · iexact HW01
      iexact HW02
    isplitl [HW10 HW11 HW12]
    · isplitl [HW10]; · iexact HW10
      isplitl [HW11]; · iexact HW11
      iexact HW12
    isplitl [HW20 HW21 HW22]
    · isplitl [HW20]; · iexact HW20
      isplitl [HW21]; · iexact HW21
      iexact HW22
    isplitl [HW30]; · iexact HW30
    isplitl [HW31]; · iexact HW31
    iexact HW32
  isplitl [HP0 HP1 HP2]
  · isplitl [HP0]; · iexact HP0
    isplitl [HP1]; · iexact HP1
    iexact HP2
  isplitl [HO]; · iexact HO
  iexact H4

end Last

end Cert.KernelIdeal.Exchange

end
-- ==== Proof.Body.lean ====
/- The kernel body at one grid point: the barrier of the first point, the row every point stores into the triple's
   three buffers, and the exchange of the last point. -/
module

public import proofs.«01_k».proof.Proof.Last

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ UU ℕ

variable (A : Dev nD → Trip F)

variable (κ : GSem nD τ sig → ℕ)

/-! ## One row of a buffer -/

/-- The first `t` rows of `X` are those of `a`. -/
def okRows {n : ℕ} {α : Type} (t : ℕ) (a X : (⟨3, ![16, 16, n]⟩ : Shape).Idx → α) : Prop :=
  ∀ y : (⟨3, ![16, 16, n]⟩ : Shape).Idx, (y 0).val < t → X y = a y

/-- Row `t` of `a` is `w`. -/
def isRow {n : ℕ} {α : Type} (t : ℕ) (a : (⟨3, ![16, 16, n]⟩ : Shape).Idx → α) (w : (⟨3, ![1, 16, n]⟩ : Shape).Idx → α) : Prop :=
  ∀ (b : Fin 16) (h : Fin 16) (d : Fin n), b.val = t → a (fun x => match x with | ⟨0, _⟩ => b | ⟨1, _⟩ => h | ⟨2, _⟩ => d)
    = w (fun x => match x with | ⟨0, _⟩ => (0 : Fin 1) | ⟨1, _⟩ => h | ⟨2, _⟩ => d)

omit [FloatOps F] in
/-- Row `t` stored over a buffer whose first `t` rows are right makes the first `t + 1` right. -/
theorem okRows_put {n : ℕ} {α : Type} (t : ℕ) (a X : (⟨3, ![16, 16, n]⟩ : Shape).Idx → α) (w : (⟨3, ![1, 16, n]⟩ : Shape).Idx → α)
    (hX : okRows t a X) (hw : isRow t a w) :
    okRows (t + 1) a (VecWindow.put (s := (⟨3, ![16, 16, n]⟩ : Shape)) X ![t, 0, 0] (⟨3, ![1, 16, n]⟩ : Shape).size w) := by
  intro y hy
  unfold VecWindow.put
  have l1 : (y 1).val < 16 := (y 1).isLt
  have l2 : (y 2).val < n := (y 2).isLt
  by_cases ht : (y 0).val = t
  · have h : ∀ x, (![t, 0, 0] : Fin 3 → ℕ) x ≤ (y x).val ∧ (y x).val < (![t, 0, 0] : Fin 3 → ℕ) x + (⟨3, ![1, 16, n]⟩ : Shape).size x := by
      intro x
      fin_cases x
      · exact ⟨ht.ge, by show (y 0).val < t + 1; omega⟩
      · exact ⟨Nat.zero_le _, by show (y 1).val < 0 + 16; omega⟩
      · exact ⟨Nat.zero_le _, by show (y 2).val < 0 + n; omega⟩
    rw [dif_pos h]
    refine Eq.trans ?_ ((hw (y 0) (y 1) (y 2) ht).symm.trans (congrArg a (funext fun x => by fin_cases x <;> rfl)))
    refine congrArg w (funext fun x => ?_)
    fin_cases x
    · exact Fin.ext (by show (y 0).val - t = 0; omega)
    · exact Fin.ext (by show (y 1).val - 0 = (y 1).val; omega)
    · exact Fin.ext (by show (y 2).val - 0 = (y 2).val; omega)
  · rw [dif_neg (fun h => ht (by
      have := h 0
      have h1 : t ≤ (y 0).val := this.1
      omega))]
    exact hX y (by omega)

/-- The triple's buffers, right in their first `t` rows. -/
def rows (t : ℕ) (c : Dev nD) : sProp 𝕄 :=
  iprop(∃ X : Trip F, ⌜okRows (n := 64) t (A c 0) (X 0) ∧ okRows (n := 1) t (A c 1) (X 1) ∧ okRows (n := 1) t (A c 2) (X 2)⌝
    ∗ owns (c : Thread nD τ) (srcM 0) fullShare (X 0) ∗ owns (c : Thread nD τ) (srcM 1) fullShare (X 1) ∗ owns (c : Thread nD τ) (srcM 2) fullShare (X 2))

/-- All sixteen rows right: the triple of the own keys. -/
theorem rows_full (c : Dev nD) : rows A 16 c ⊢ tri A 0 c := by
  unfold rows tri sendPay
  iintro ⟨%X, %h, H0, H1, H2⟩
  have e0 : X 0 = A c 0 := funext fun y => h.1 y (y 0).isLt
  have e1 : X 1 = A c 1 := funext fun y => h.2.1 y (y 0).isLt
  have e2 : X 2 = A c 2 := funext fun y => h.2.2 y (y 0).isLt
  rw [e0, e1, e2]
  isplitl [H0]; · iexact H0
  isplitl [H1]; · iexact H1
  iexact H2

/-- A load whose value is not used. -/
theorem wp_load_any (c : Dev nD) {sh : Shape} {e : EltTy} (m : Memref sig .tc .vmem sh e) (X : Vec F sh e) {q : PosShare TreeShare} {r : Rect sh}
    {hl : m.view.LoadsAt r.toLoadRect} {α : Type} {Q : α → sProp 𝕄} {k : Vec F r.shape e → Prog (TpuEff nD τ sig (Elt F) Λ₀ .tc) α} :
    owns (c : Thread nD τ) m q X
      ⊢ iprop((∀ Y, owns (c : Thread nD τ) m q X -∗ wp frame (wpE (defs₀ (F := F)) 𝒱₀ (c : Thread nD τ) none) Set.univ (k Y) Q)
        -∗ wp frame (wpE (defs₀ (F := F)) 𝒱₀ (c : Thread nD τ) none) Set.univ (.op (.load m r.toLoadRect hl) k) Q) := by
  unfold owns
  iintro ⟨%f, %hf, H⟩ Hk
  iapply (wp_load 𝒱₀ (c : Thread nD τ) none Set.univ (m := m) (View.setOn_subset_set _ _)) $$ H
  iintro H
  iapply Hk
  iexists f
  isplitr; · ipureintro; exact hf
  iexact H

/-! ## What a device holds -/

/-- The tokens of the four barrier signals. -/
def barToks (c : Dev nD) : sProp 𝕄 := bigSep Finset.univ fun s : Fin 4 => dutyTok ER (barCell (pr s c)) 0 s
/-- The tokens of the twelve copies' two credits. -/
def payToks (c : Dev nD) : sProp 𝕄 := bigSep Finset.univ fun s : Fin 4 => bigSep Finset.univ fun i : Fin 3 =>
  iprop(dutyTok ER (sendCell i c) s.val 0 ∗ dutyTok ER (recvCell s i (pr s c)) 0 0)
/-- The twelve landing slabs. -/
def slabs (c : Dev nD) : sProp 𝕄 := bigSep Finset.univ fun s : Fin 4 => bigSep Finset.univ fun i : Fin 3 => slabAny s i c
/-- The twelve receive semaphores' first round is open. -/
def recvOpen (c : Dev nD) : sProp 𝕄 := bigSep Finset.univ fun s : Fin 4 => bigSep Finset.univ fun i : Fin 3 => reached ER (recvCell s i c) 0

/-- Before the first point. -/
def pre0 (c : Dev nD) : sProp 𝕄 :=
  iprop(atPos ER (barCell c) 0 ∅ 0 ∗ cred (tallyAt (barCell c) () 4) ∗ barToks c ∗ payToks c ∗ slabs c ∗ recvOpen c)
/-- After the barrier, before the copies. -/
def mid (c : Dev nD) : sProp 𝕄 := iprop(atPos ER (barCell c) 1 ∅ 0 ∗ copies c)
/-- The kernel's semaphores, at zero. -/
def zeros (c : Dev nD) : sProp 𝕄 :=
  iprop((bigSep Finset.univ fun i : Fin 3 => semVal (sendCell i c) 0) ∗ (bigSep Finset.univ fun s : Fin 4 => bigSep Finset.univ fun i : Fin 3 => semVal (recvCell s i c) 0)
    ∗ semVal (barCell c) 0)
/-- After the last point. -/
def fin (c : Dev nD) : sProp 𝕄 :=
  iprop((∃ X : Trip F, owns (c : Thread nD τ) (srcM 0) fullShare (X 0) ∗ owns (c : Thread nD τ) (srcM 1) fullShare (X 1) ∗ owns (c : Thread nD τ) (srcM 2) fullShare (X 2))
    ∗ slabs c ∗ zeros c)

section Point

variable (i : grid0.Coords) (arg1 : Memref sig .tc .vmem S1x1x16x64 .bf16) (harg1 : arg1.IsWhole) (arg2 : Memref sig .tc .vmem S1x128x1024 .bf16) (harg2 : arg2.IsWhole)
  (arg3 : Memref sig .tc .vmem S1x128x1024 .bf16) (harg3 : arg3.IsWhole) (arg4 : Memref sig .tc .vmem S16x1x16x64 .f32) (harg4 : arg4.IsWhole)
  (c : Dev nD) (xq : Vec F S1x1x16x64 .bf16) (xk xv : Vec F S1x128x1024 .bf16)

/-- The accumulator the score product starts from. -/
abbrev acc0 : FVec F S128x16 .f32 := constant S128x16 .f32 0x00000000#32

/-- What the point's first part returns: the words it computed and the two blocks as the products take them. -/
abbrev Ret17 : Type := Σ' (_ : BitVec 32) (_ : Dev nD) (_ : BitVec 32) (_ : BitVec 32) (_ : BitVec 32) (_ : BitVec 32) (_ : BitVec 32) (_ : BitVec 32) (_ : BitVec 32) (_ : FVec F S1024x16 .bf16) (_ : FVec F S128x1024 .bf16), FVec F S128x16 .f32

/-- The first part at a later point: two loads. -/
theorem part17_later (h1 : ¬ k0_cond1 i = 1#1) {Q : Ret17 (F := F) → sProp 𝕄} :
    iprop(owns (c : Thread nD τ) arg1 fullShare xq ∗ owns (c : Thread nD τ) arg2 fullShare xk)
      ⊢ iprop((∀ (a0 w2 w5 w8 w9 w10 w11 w12 : BitVec 32), owns (c : Thread nD τ) arg1 fullShare xq ∗ owns (c : Thread nD τ) arg2 fullShare xk
            -∗ Q ⟨a0, c, w2, w5, w8, w9, w10, w11, w12, k0_pay35 xq, k0_pay36 xk, acc0⟩)
        -∗ wp frame (wpE (defs₀ (F := F)) 𝒱₀ (c : Thread nD τ) none) Set.univ (k0_part17 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) Q) := by
  rw [k0_part17_eq_skeleton]; unfold k0_part17_skel
  simp only [Prog.lift, Prog.bind_op, Prog.bind_ret, Prog.pure_eq_ret, Prog.bind_assoc, wp_deviceId, dif_neg h1]
  iintro ⟨H1, H2⟩ Hk
  iapply (wp_load_full c arg1 xq) $$ H1
  iintro H1
  iapply (wp_load_full c arg2 xk) $$ H2
  iintro H2
  rw [wp_ret]; imodintro
  iapply Hk
  isplitl [H1]; · iexact H1
  iexact H2

/-- The first part at the first point: the four signals, the wait, and the two loads. -/
theorem part17_first (h1 : k0_cond1 i = 1#1) {Q : Ret17 (F := F) → sProp 𝕄} :
    iprop(env A κ ∗ pre0 c ∗ (∃ W, owes (c : Thread nD τ) (O₀ c) W) ∗ owns (c : Thread nD τ) arg1 fullShare xq ∗ owns (c : Thread nD τ) arg2 fullShare xk)
      ⊢ iprop((∀ (a0 w2 w5 w8 w9 w10 w11 w12 : BitVec 32), (mid c ∗ ow c 12 ∗ owns (c : Thread nD τ) arg1 fullShare xq ∗ owns (c : Thread nD τ) arg2 fullShare xk)
            -∗ Q ⟨a0, c, w2, w5, w8, w9, w10, w11, w12, k0_pay35 xq, k0_pay36 xk, acc0⟩)
        -∗ wp frame (wpE (defs₀ (F := F)) 𝒱₀ (c : Thread nD τ) none) Set.univ (k0_part17 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) Q) := by
  rw [k0_part17_eq_skeleton]; unfold k0_part17_skel
  simp only [semSignalWord, semWaitWord, Prog.lift, Prog.bind_op, Prog.bind_ret, Prog.pure_eq_ret, Prog.bind_assoc, wp_deviceId, dif_pos h1]
  unfold pre0 barToks payToks slabs recvOpen env
  simp only [bigSep_stages, bigSep_comps]
  iintro ⟨⟨#Hrec, #Hlev⟩, ⟨Hat, Hcb, ⟨HB0, HB1, HB2, HB3⟩, ⟨⟨⟨HT00, HR00⟩, ⟨HT01, HR01⟩, ⟨HT02, HR02⟩⟩, ⟨⟨HT10, HR10⟩, ⟨HT11, HR11⟩, ⟨HT12, HR12⟩⟩, ⟨⟨HT20, HR20⟩, ⟨HT21, HR21⟩, ⟨HT22, HR22⟩⟩, ⟨⟨HT30, HR30⟩, ⟨HT31, HR31⟩, ⟨HT32, HR32⟩⟩⟩, ⟨⟨HS00, HS01, HS02⟩, ⟨HS10, HS11, HS12⟩, ⟨HS20, HS21, HS22⟩, ⟨HS30, HS31, HS32⟩⟩, ⟨⟨#HV00, #HV01, #HV02⟩, ⟨#HV10, #HV11, #HV12⟩, ⟨#HV20, #HV21, #HV22⟩, ⟨#HV30, #HV31, #HV32⟩⟩⟩, ⟨%W, HO⟩, H1, H2⟩ Hk
  iapply (wp_bar_signal A κ 0 c _ (dev1_eq c _) rfl (rem c 12 + tallyAt (barCell (pr 3 c)) () 1 + tallyAt (barCell (pr 2 c)) () 1 + tallyAt (barCell (pr 1 c)) () 1) W) $$ [HO HB0 HS00 HS01 HS02]
  · isplitr; · iexact Hrec
    isplitl [HO]; · iexact HO
    isplitl [HB0]; · iexact HB0
    isplitl [HS00 HS01 HS02]
    · isplitl [HS00]; · iexact HS00
      isplitl [HS01]; · iexact HS01
      iexact HS02
    isplitr; · iexact HV00
    isplitr; · iexact HV01
    iexact HV02
  iintro HO
  iapply (wp_bar_signal A κ 1 c _ (dev2_eq c _) rfl (rem c 12 + tallyAt (barCell (pr 3 c)) () 1 + tallyAt (barCell (pr 2 c)) () 1) W) $$ [HO HB1 HS10 HS11 HS12]
  · isplitr; · iexact Hrec
    isplitl [HO]; · iexact HO
    isplitl [HB1]; · iexact HB1
    isplitl [HS10 HS11 HS12]
    · isplitl [HS10]; · iexact HS10
      isplitl [HS11]; · iexact HS11
      iexact HS12
    isplitr; · iexact HV10
    isplitr; · iexact HV11
    iexact HV12
  iintro HO
  iapply (wp_bar_signal A κ 2 c _ (dev3_eq c _) rfl (rem c 12 + tallyAt (barCell (pr 3 c)) () 1) W) $$ [HO HB2 HS20 HS21 HS22]
  · isplitr; · iexact Hrec
    isplitl [HO]; · iexact HO
    isplitl [HB2]; · iexact HB2
    isplitl [HS20 HS21 HS22]
    · isplitl [HS20]; · iexact HS20
      isplitl [HS21]; · iexact HS21
      iexact HS22
    isplitr; · iexact HV20
    isplitr; · iexact HV21
    iexact HV22
  iintro HO
  iapply (wp_bar_signal A κ 3 c _ (dev4_eq c _) rfl (rem c 12) W) $$ [HO HB3 HS30 HS31 HS32]
  · isplitr; · iexact Hrec
    isplitl [HO]; · iexact HO
    isplitl [HB3]; · iexact HB3
    isplitl [HS30 HS31 HS32]
    · isplitl [HS30]; · iexact HS30
      isplitl [HS31]; · iexact HS31
      iexact HS32
    isplitr; · iexact HV30
    isplitr; · iexact HV31
    iexact HV32
  iintro HO
  iapply (wp_bar_wait A κ c rfl W) $$ [Hcb HO Hat]
  · isplitr; · iexact Hrec
    isplitr; · iexact Hlev
    isplitl [Hcb]; · iexact Hcb
    isplitl [HO]; · iexact HO
    iexact Hat
  iintro ⟨HO, Hat, HP0, HP1, HP2, HP3⟩
  unfold barPay
  icases HP0 with ⟨⟨HS00, HS01, HS02⟩, #HX00, #HX01, #HX02⟩
  icases HP1 with ⟨⟨HS10, HS11, HS12⟩, #HX10, #HX11, #HX12⟩
  icases HP2 with ⟨⟨HS20, HS21, HS22⟩, #HX20, #HX21, #HX22⟩
  icases HP3 with ⟨⟨HS30, HS31, HS32⟩, #HX30, #HX31, #HX32⟩
  iapply (wp_load_full c arg1 xq) $$ H1
  iintro H1
  iapply (wp_load_full c arg2 xk) $$ H2
  iintro H2
  rw [wp_ret]; imodintro
  iapply Hk
  isplitl [Hat HS00 HT00 HR00 HS01 HT01 HR01 HS02 HT02 HR02 HS10 HT10 HR10 HS11 HT11 HR11 HS12 HT12 HR12 HS20 HT20 HR20 HS21 HT21 HR21 HS22 HT22 HR22 HS30 HT30 HR30 HS31 HT31 HR31 HS32 HT32 HR32]
  · unfold mid copies
    simp only [bigSep_stages, bigSep_comps]
    isplitl [Hat]; · iexact Hat
    isplitl [HS00 HT00 HR00 HS01 HT01 HR01 HS02 HT02 HR02]
    · isplitl [HS00 HT00 HR00]
      · unfold copyRes
        isplitl [HS00]; · iexact HS00
        isplitr; · iexact HX00
        isplitl [HT00]; · iexact HT00
        iexact HR00
      isplitl [HS01 HT01 HR01]
      · unfold copyRes
        isplitl [HS01]; · iexact HS01
        isplitr; · iexact HX01
        isplitl [HT01]; · iexact HT01
        iexact HR01
      · unfold copyRes
        isplitl [HS02]; · iexact HS02
        isplitr; · iexact HX02
        isplitl [HT02]; · iexact HT02
        iexact HR02
    isplitl [HS10 HT10 HR10 HS11 HT11 HR11 HS12 HT12 HR12]
    · isplitl [HS10 HT10 HR10]
      · unfold copyRes
        isplitl [HS10]; · iexact HS10
        isplitr; · iexact HX10
        isplitl [HT10]; · iexact HT10
        iexact HR10
      isplitl [HS11 HT11 HR11]
      · unfold copyRes
        isplitl [HS11]; · iexact HS11
        isplitr; · iexact HX11
        isplitl [HT11]; · iexact HT11
        iexact HR11
      · unfold copyRes
        isplitl [HS12]; · iexact HS12
        isplitr; · iexact HX12
        isplitl [HT12]; · iexact HT12
        iexact HR12
    isplitl [HS20 HT20 HR20 HS21 HT21 HR21 HS22 HT22 HR22]
    · isplitl [HS20 HT20 HR20]
      · unfold copyRes
        isplitl [HS20]; · iexact HS20
        isplitr; · iexact HX20
        isplitl [HT20]; · iexact HT20
        iexact HR20
      isplitl [HS21 HT21 HR21]
      · unfold copyRes
        isplitl [HS21]; · iexact HS21
        isplitr; · iexact HX21
        isplitl [HT21]; · iexact HT21
        iexact HR21
      · unfold copyRes
        isplitl [HS22]; · iexact HS22
        isplitr; · iexact HX22
        isplitl [HT22]; · iexact HT22
        iexact HR22
    isplitl [HS30 HT30 HR30]
    · unfold copyRes
      isplitl [HS30]; · iexact HS30
      isplitr; · iexact HX30
      isplitl [HT30]; · iexact HT30
      iexact HR30
    isplitl [HS31 HT31 HR31]
    · unfold copyRes
      isplitl [HS31]; · iexact HS31
      isplitr; · iexact HX31
      isplitl [HT31]; · iexact HT31
      iexact HR31
    · unfold copyRes
      isplitl [HS32]; · iexact HS32
      isplitr; · iexact HX32
      isplitl [HT32]; · iexact HT32
      iexact HR32
  isplitl [HO]
  · unfold ow; iexists _; iexact HO
  isplitl [H1]; · iexact H1
  iexact H2

/-- The point's rows: computed from the three blocks and stored into the triple's buffers. -/
theorem part18_run (t : ℕ) (a0 : BitVec 32) (vq : FVec F S1024x16 .bf16) (vk : FVec F S128x1024 .bf16) (ho1 : k0_off1 i = ![t, 0, 0]) (ho2 : k0_off2 i = ![t, 0, 0])
    (h0 : isRow (n := 64) t (A c 0) (k0_pay40 vq vk acc0 xv)) (h1 : isRow (n := 1) t (A c 1) (k0_pay41 vq vk acc0)) (h2 : isRow (n := 1) t (A c 2) (k0_pay42 vq vk acc0))
    {Q : (Σ' (_ : BitVec 32), BitVec 32) → sProp 𝕄} :
    iprop(rows A t c ∗ owns (c : Thread nD τ) arg3 fullShare xv)
      ⊢ iprop((∀ r, rows A (t + 1) c ∗ owns (c : Thread nD τ) arg3 fullShare xv -∗ Q r)
        -∗ wp frame (wpE (defs₀ (F := F)) 𝒱₀ (c : Thread nD τ) none) Set.univ (k0_part18 i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 a0 vq vk acc0) Q) := by
  rw [k0_part18_eq_skeleton]; unfold k0_part18_skel
  simp only [Prog.lift, Prog.bind_op, Prog.bind_ret, Prog.pure_eq_ret]
  unfold rows
  iintro ⟨⟨%X, %hX, HX0, HX1, HX2⟩, H3⟩ Hk
  iapply (wp_load_full c arg3 xv) $$ H3
  iintro H3
  iapply (wp_load_any c (srcM 0) (X 0)) $$ HX0
  iintro %Y0 HX0
  iapply (wp_store_put c (srcM 0) (X 0) ho1) $$ HX0
  iintro HX0
  iapply (wp_load_any c (srcM 1) (X 1)) $$ HX1
  iintro %Y1 HX1
  iapply (wp_store_put c (srcM 1) (X 1) ho2) $$ HX1
  iintro HX1
  iapply (wp_load_any c (srcM 2) (X 2)) $$ HX2
  iintro %Y2 HX2
  iapply (wp_store_put c (srcM 2) (X 2) ho2) $$ HX2
  iintro HX2
  rw [wp_ret]; imodintro
  iapply Hk
  isplitr [H3]
  · iexists (fun | 0 => VecWindow.put (s := S16x16x64) (X 0) ![t, 0, 0] S1x16x64.size (k0_pay40 vq vk acc0 xv)
                 | 1 => VecWindow.put (s := S16x16x1) (X 1) ![t, 0, 0] S1x16x1.size (k0_pay41 vq vk acc0)
                 | 2 => VecWindow.put (s := S16x16x1) (X 2) ![t, 0, 0] S1x16x1.size (k0_pay42 vq vk acc0))
    isplitr
    · ipureintro
      exact ⟨okRows_put (n := 64) t _ _ _ hX.1 h0, okRows_put (n := 1) t _ _ _ hX.2.1 h1, okRows_put (n := 1) t _ _ _ hX.2.2 h2⟩
    isplitl [HX0]; · iexact HX0
    isplitl [HX1]; · iexact HX1
    iexact HX2
  iexact H3

/-- The cells closed at the end: the landed slabs and the semaphores at zero. -/
theorem close_all :
    iprop(env A κ ∗ atPos ER (barCell c) 1 ∅ 0 ∗ tri A 4 c ∗ gots A c ∗ sendPoss 4 c) ⊢ iprop(|={Set.univ}=> fin c) := by
  unfold env tri gots sendPoss
  simp only [bigSep_stages, bigSep_comps]
  unfold gotRes sendPos
  iintro ⟨⟨#Hrec, -⟩, Hat, ⟨HS0, HS1, HS2⟩, ⟨⟨⟨HG00, HA00⟩, ⟨HG01, HA01⟩, ⟨HG02, HA02⟩⟩, ⟨⟨HG10, HA10⟩, ⟨HG11, HA11⟩, ⟨HG12, HA12⟩⟩, ⟨⟨HG20, HA20⟩, ⟨HG21, HA21⟩, ⟨HG22, HA22⟩⟩, ⟨⟨HG30, HA30⟩, ⟨HG31, HA31⟩, ⟨HG32, HA32⟩⟩⟩, ⟨⟨HP0, -⟩, ⟨HP1, -⟩, ⟨HP2, -⟩⟩⟩
  imod (Rounds.cell_close ER (sched A) (Set.mem_univ (κ (barCell c))) id (R := 1) (later_bar A c)) $$ [Hat] with HZb
  · isplitr; · iapply (inv_at A κ (bar_mem c)) $$ Hrec
    iexact Hat
  imod (Rounds.cell_close ER (sched A) (Set.mem_univ (κ (sendCell 0 c))) id (R := 4) (later_send A c 0)) $$ [HP0] with HZs0
  · isplitr; · iapply (inv_at A κ (send_mem 0 c)) $$ Hrec
    iexact HP0
  imod (Rounds.cell_close ER (sched A) (Set.mem_univ (κ (sendCell 1 c))) id (R := 4) (later_send A c 1)) $$ [HP1] with HZs1
  · isplitr; · iapply (inv_at A κ (send_mem 1 c)) $$ Hrec
    iexact HP1
  imod (Rounds.cell_close ER (sched A) (Set.mem_univ (κ (sendCell 2 c))) id (R := 4) (later_send A c 2)) $$ [HP2] with HZs2
  · isplitr; · iapply (inv_at A κ (send_mem 2 c)) $$ Hrec
    iexact HP2
  imod (Rounds.cell_close ER (sched A) (Set.mem_univ (κ (recvCell 0 0 c))) id (R := 1) (later_recv A c 0 0)) $$ [HA00] with HZ00
  · isplitr; · iapply (inv_at A κ (recv_mem 0 0 c)) $$ Hrec
    iexact HA00
  imod (Rounds.cell_close ER (sched A) (Set.mem_univ (κ (recvCell 0 1 c))) id (R := 1) (later_recv A c 0 1)) $$ [HA01] with HZ01
  · isplitr; · iapply (inv_at A κ (recv_mem 0 1 c)) $$ Hrec
    iexact HA01
  imod (Rounds.cell_close ER (sched A) (Set.mem_univ (κ (recvCell 0 2 c))) id (R := 1) (later_recv A c 0 2)) $$ [HA02] with HZ02
  · isplitr; · iapply (inv_at A κ (recv_mem 0 2 c)) $$ Hrec
    iexact HA02
  imod (Rounds.cell_close ER (sched A) (Set.mem_univ (κ (recvCell 1 0 c))) id (R := 1) (later_recv A c 1 0)) $$ [HA10] with HZ10
  · isplitr; · iapply (inv_at A κ (recv_mem 1 0 c)) $$ Hrec
    iexact HA10
  imod (Rounds.cell_close ER (sched A) (Set.mem_univ (κ (recvCell 1 1 c))) id (R := 1) (later_recv A c 1 1)) $$ [HA11] with HZ11
  · isplitr; · iapply (inv_at A κ (recv_mem 1 1 c)) $$ Hrec
    iexact HA11
  imod (Rounds.cell_close ER (sched A) (Set.mem_univ (κ (recvCell 1 2 c))) id (R := 1) (later_recv A c 1 2)) $$ [HA12] with HZ12
  · isplitr; · iapply (inv_at A κ (recv_mem 1 2 c)) $$ Hrec
    iexact HA12
  imod (Rounds.cell_close ER (sched A) (Set.mem_univ (κ (recvCell 2 0 c))) id (R := 1) (later_recv A c 2 0)) $$ [HA20] with HZ20
  · isplitr; · iapply (inv_at A κ (recv_mem 2 0 c)) $$ Hrec
    iexact HA20
  imod (Rounds.cell_close ER (sched A) (Set.mem_univ (κ (recvCell 2 1 c))) id (R := 1) (later_recv A c 2 1)) $$ [HA21] with HZ21
  · isplitr; · iapply (inv_at A κ (recv_mem 2 1 c)) $$ Hrec
    iexact HA21
  imod (Rounds.cell_close ER (sched A) (Set.mem_univ (κ (recvCell 2 2 c))) id (R := 1) (later_recv A c 2 2)) $$ [HA22] with HZ22
  · isplitr; · iapply (inv_at A κ (recv_mem 2 2 c)) $$ Hrec
    iexact HA22
  imod (Rounds.cell_close ER (sched A) (Set.mem_univ (κ (recvCell 3 0 c))) id (R := 1) (later_recv A c 3 0)) $$ [HA30] with HZ30
  · isplitr; · iapply (inv_at A κ (recv_mem 3 0 c)) $$ Hrec
    iexact HA30
  imod (Rounds.cell_close ER (sched A) (Set.mem_univ (κ (recvCell 3 1 c))) id (R := 1) (later_recv A c 3 1)) $$ [HA31] with HZ31
  · isplitr; · iapply (inv_at A κ (recv_mem 3 1 c)) $$ Hrec
    iexact HA31
  imod (Rounds.cell_close ER (sched A) (Set.mem_univ (κ (recvCell 3 2 c))) id (R := 1) (later_recv A c 3 2)) $$ [HA32] with HZ32
  · isplitr; · iapply (inv_at A κ (recv_mem 3 2 c)) $$ Hrec
    iexact HA32
  imodintro
  unfold fin slabs zeros sendPay recvPay
  simp only [bigSep_stages, bigSep_comps]
  isplitl [HS0 HS1 HS2]
  · iexists (st A 4 c)
    isplitl [HS0]; · iexact HS0
    isplitl [HS1]; · iexact HS1
    iexact HS2
  isplitl [HG00 HG01 HG02 HG10 HG11 HG12 HG20 HG21 HG22 HG30 HG31 HG32]
  · unfold slabAny
    isplitl [HG00 HG01 HG02]
    · isplitl [HG00]; · iexists _; iexact HG00
      isplitl [HG01]; · iexists _; iexact HG01
      iexists _; iexact HG02
    isplitl [HG10 HG11 HG12]
    · isplitl [HG10]; · iexists _; iexact HG10
      isplitl [HG11]; · iexists _; iexact HG11
      iexists _; iexact HG12
    isplitl [HG20 HG21 HG22]
    · isplitl [HG20]; · iexists _; iexact HG20
      isplitl [HG21]; · iexists _; iexact HG21
      iexists _; iexact HG22
    isplitl [HG30]; · iexists _; iexact HG30
    isplitl [HG31]; · iexists _; iexact HG31
    iexists _; iexact HG32
  isplitl [HZs0 HZs1 HZs2]
  · isplitl [HZs0]; · iexact HZs0
    isplitl [HZs1]; · iexact HZs1
    iexact HZs2
  isplitr [HZb]
  · skip
    isplitl [HZ00 HZ01 HZ02]
    · isplitl [HZ00]; · iexact HZ00
      isplitl [HZ01]; · iexact HZ01
      iexact HZ02
    isplitl [HZ10 HZ11 HZ12]
    · isplitl [HZ10]; · iexact HZ10
      isplitl [HZ11]; · iexact HZ11
      iexact HZ12
    isplitl [HZ20 HZ21 HZ22]
    · isplitl [HZ20]; · iexact HZ20
      isplitl [HZ21]; · iexact HZ21
      iexact HZ22
    isplitl [HZ30]; · iexact HZ30
    isplitl [HZ31]; · iexact HZ31
    iexact HZ32
  iexact HZb

end Point

end Cert.KernelIdeal.Exchange

end
-- ==== Proof.Point.lean ====
/- The kernel body at a symbolic grid point, from the invariant before the point to the invariant after it. -/
module

public import proofs.«01_k».proof.Proof.Body

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ UU ℕ

variable (A : Dev nD → Trip F)

/-- What a device holds before point `t`, and after the last. -/
def inv (t : ℕ) (c : Dev nD) : sProp 𝕄 :=
  if t = 16 then fin c
  else iprop(∃ κ, env A κ ∗ rows A t c ∗ waits c ∗ sendPoss 0 c ∗ if t = 0 then pre0 c else mid c)

/-- What a device owes before point `t`, and after the last. -/
def owedAt (t : ℕ) (c : Dev nD) : CellTallies nD τ sig Unit := if t = 0 then O₀ c else if t = 16 then 0 else rem c 12

section Point

variable (i : grid0.Coords) (arg1 : Memref sig .tc .vmem S1x1x16x64 .bf16) (harg1 : arg1.IsWhole) (arg2 : Memref sig .tc .vmem S1x128x1024 .bf16) (harg2 : arg2.IsWhole)
  (arg3 : Memref sig .tc .vmem S1x128x1024 .bf16) (harg3 : arg3.IsWhole) (arg4 : Memref sig .tc .vmem S16x1x16x64 .f32) (harg4 : arg4.IsWhole)
  (c : Dev nD) (xq : Vec F S1x1x16x64 .bf16) (xk xv : Vec F S1x128x1024 .bf16) (X : Vec F S16x1x16x64 .f32)

/-- The staged blocks' buffers. -/
def blocks : sProp 𝕄 :=
  iprop(owns (c : Thread nD τ) arg1 fullShare xq ∗ owns (c : Thread nD τ) arg2 fullShare xk ∗ owns (c : Thread nD τ) arg3 fullShare xv)

theorem point_run (t : ℕ) (ht : t < 16) (h1 : k0_cond1 i = 1#1 ↔ t = 0) (h2 : k0_cond2 i = 1#1 ↔ t = 15)
    (ho1 : k0_off1 i = ![t, 0, 0]) (ho2 : k0_off2 i = ![t, 0, 0])
    (hr0 : isRow (n := 64) t (A c 0) (k0_pay40 (k0_pay35 xq) (k0_pay36 xk) acc0 xv)) (hr1 : isRow (n := 1) t (A c 1) (k0_pay41 (k0_pay35 xq) (k0_pay36 xk) acc0))
    (hr2 : isRow (n := 1) t (A c 2) (k0_pay42 (k0_pay35 xq) (k0_pay36 xk) acc0)) {Q : PUnit → sProp 𝕄} :
    iprop(inv A t c ∗ (∃ W, owes (c : Thread nD τ) (owedAt t c) W) ∗ blocks arg1 arg2 arg3 c xq xk xv ∗ owns (c : Thread nD τ) arg4 fullShare X)
      ⊢ iprop((inv A (t + 1) c ∗ (∃ W, owes (c : Thread nD τ) (owedAt (t + 1) c) W) ∗ blocks arg1 arg2 arg3 c xq xk xv
            ∗ owns (c : Thread nD τ) arg4 fullShare (if t = 15 then outOf (st A 4 c) else X) -∗ Q ⟨⟩)
        -∗ wp frame (wpE (defs₀ (F := F)) 𝒱₀ (c : Thread nD τ) none) Set.univ (cc0_body i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) Q) := by
  rw [cc0_body_eq_skeleton]; unfold cc0_body_skel
  simp only [Prog.lift, Prog.bind_op, Prog.bind_ret, Prog.pure_eq_ret]
  unfold blocks inv
  rw [if_neg (by omega : ¬ t = 16)]
  by_cases h0 : t = 0
  · have e15 : ¬ t = 15 := by omega
    have hn2 : ¬ k0_cond2 i = 1#1 := fun h => e15 (h2.mp h)
    have eo : owedAt t c = O₀ c := if_pos h0
    rw [eo, if_pos h0, if_neg (by omega : ¬ t + 1 = 16), if_neg (by omega : ¬ t + 1 = 0), if_neg e15,
      show owedAt (t + 1) c = rem c 12 from (if_neg (by omega)).trans (if_neg (by omega))]
    iintro ⟨⟨%κ, #Henv, Hrows, Hw, Hsp, Hst⟩, HO, ⟨H1, H2, H3⟩, H4⟩ Hk
    rw [wp_bind]
    iapply (part17_first A κ i arg1 harg1 arg2 harg2 arg3 harg3 arg4 harg4 c xq xk (h1.mpr h0)) $$ [Hst HO H1 H2]
    · isplitr; · iexact Henv
      isplitl [Hst]; · iexact Hst
      isplitl [HO]; · iexact HO
      isplitl [H1]; · iexact H1
      iexact H2
    iintro %a0 %w2 %w5 %w8 %w9 %w10 %w11 %w12 ⟨Hst, HO, H1, H2⟩
    dsimp only
    rw [wp_bind]
    iapply (part18_run A i arg1 harg1 arg2 harg2 arg3 harg3 arg4 harg4 c xv t a0 _ _ ho1 ho2 hr0 hr1 hr2) $$ [Hrows H3]
    · isplitl [Hrows]; · iexact Hrows
      iexact H3
    iintro %r ⟨Hrows, H3⟩
    rw [dif_neg hn2, wp_ret]; imodintro
    iapply Hk
    isplitl [Hrows Hw Hsp Hst]
    · iexists κ
      isplitr; · iexact Henv
      isplitl [Hrows]; · iexact Hrows
      isplitl [Hw]; · iexact Hw
      isplitl [Hsp]; · iexact Hsp
      iexact Hst
    isplitl [HO]
    · unfold ow; iexact HO
    isplitl [H1 H2 H3]
    · isplitl [H1]; · iexact H1
      isplitl [H2]; · iexact H2
      iexact H3
    iexact H4
  · have hn1 : ¬ k0_cond1 i = 1#1 := fun h => h0 (h1.mp h)
    have eo : owedAt t c = rem c 12 := (if_neg h0).trans (if_neg (by omega))
    rw [eo, if_neg h0]
    by_cases h15 : t = 15
    · have hk : k0_cond2 i = 1#1 := h2.mpr h15
      rw [if_pos (by omega : t + 1 = 16), if_pos h15, show owedAt (t + 1) c = rem c 0 from (if_neg (by omega)).trans (if_pos (by omega))]
      iintro ⟨⟨%κ, #Henv, Hrows, Hw, Hsp, Hst⟩, HO, ⟨H1, H2, H3⟩, H4⟩ Hk
      rw [wp_bind]
      iapply (part17_later i arg1 harg1 arg2 harg2 arg3 harg3 arg4 harg4 c xq xk hn1) $$ [H1 H2]
      · isplitl [H1]; · iexact H1
        iexact H2
      iintro %a0 %w2 %w5 %w8 %w9 %w10 %w11 %w12 ⟨H1, H2⟩
      dsimp only
      rw [wp_bind]
      iapply (part18_run A i arg1 harg1 arg2 harg2 arg3 harg3 arg4 harg4 c xv t a0 _ _ ho1 ho2 hr0 hr1 hr2) $$ [Hrows H3]
      · isplitl [Hrows]; · iexact Hrows
        iexact H3
      iintro %r ⟨Hrows, H3⟩
      rw [dif_pos hk, wp_bind]
      unfold mid
      icases Hst with ⟨Hat, Hc⟩
      iapply (part16_run A κ i arg1 harg1 arg2 harg2 arg3 harg3 arg4 harg4 c hk w2 w5 w8 w9 w10 w11 w12 X) $$ [Hrows Hc Hw Hsp HO H4]
      · isplitr; · iexact Henv
        isplitl [Hrows]
        · iapply (rows_full A c); rw [show (16 : ℕ) = t + 1 from by omega]; iexact Hrows
        isplitl [Hc]; · iexact Hc
        isplitl [Hw]; · iexact Hw
        isplitl [Hsp]; · iexact Hsp
        isplitl [HO]; · unfold ow; iexact HO
        iexact H4
      iintro ⟨Ht, Hg, Hsp, HO, H4⟩
      rw [wp_ret]
      imod (close_all A κ c) $$ [Hat Ht Hg Hsp] with Hfin
      · isplitr; · iexact Henv
        isplitl [Hat]; · iexact Hat
        isplitl [Ht]; · iexact Ht
        isplitl [Hg]; · iexact Hg
        iexact Hsp
      imodintro
      iapply Hk
      isplitl [Hfin]; · iexact Hfin
      isplitl [HO]
      · unfold ow; iexact HO
      isplitl [H1 H2 H3]
      · isplitl [H1]; · iexact H1
        isplitl [H2]; · iexact H2
        iexact H3
      iexact H4
    · have hn2 : ¬ k0_cond2 i = 1#1 := fun h => h15 (h2.mp h)
      rw [if_neg (by omega : ¬ t + 1 = 16), if_neg (by omega : ¬ t + 1 = 0), if_neg h15,
        show owedAt (t + 1) c = rem c 12 from (if_neg (by omega)).trans (if_neg (by omega))]
      iintro ⟨⟨%κ, #Henv, Hrows, Hw, Hsp, Hst⟩, HO, ⟨H1, H2, H3⟩, H4⟩ Hk
      rw [wp_bind]
      iapply (part17_later i arg1 harg1 arg2 harg2 arg3 harg3 arg4 harg4 c xq xk hn1) $$ [H1 H2]
      · isplitl [H1]; · iexact H1
        iexact H2
      iintro %a0 %w2 %w5 %w8 %w9 %w10 %w11 %w12 ⟨H1, H2⟩
      dsimp only
      rw [wp_bind]
      iapply (part18_run A i arg1 harg1 arg2 harg2 arg3 harg3 arg4 harg4 c xv t a0 _ _ ho1 ho2 hr0 hr1 hr2) $$ [Hrows H3]
      · isplitl [Hrows]; · iexact Hrows
        iexact H3
      iintro %r ⟨Hrows, H3⟩
      rw [dif_neg hn2, wp_ret]; imodintro
      iapply Hk
      isplitl [Hrows Hw Hsp Hst]
      · iexists κ
        isplitr; · iexact Henv
        isplitl [Hrows]; · iexact Hrows
        isplitl [Hw]; · iexact Hw
        isplitl [Hsp]; · iexact Hsp
        iexact Hst
      isplitl [HO]
      · iexact HO
      isplitl [H1 H2 H3]
      · isplitl [H1]; · iexact H1
        isplitl [H2]; · iexact H2
        iexact H3
      iexact H4

end Point

end Cert.KernelIdeal.Exchange

end
-- ==== Proof.Region.lean ====
/- The region's proof data: what each device's own triple is, what the arrays hold, and the body's obligation at
   every grid point. -/
module

public import proofs.«01_k».proof.Proof.Point
public import proofs.«01_k».proof.Proof.Gen.KernelIdeal.Points
public import proofs.«01_k».proof.Proof.Gen.KernelIdeal.Regions

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ UU ℕ

variable (m : (ℓ : Loc nD τ sig) → Buf (Elt F) ℓ)

/-- Grid point number `b`. -/
def pt (b : Fin 16) : Fin cfg0.N := ⟨b.val, by rw [show cfg0.N = 16 from N_0]; exact b.isLt⟩

/-- The blocks of the queries, keys and values at a point, on device `c`. -/
abbrev qBlk (c : Dev nD) (t : Fin cfg0.N) : Vec F S1x1x16x64 .bf16 := ((cfg0.win 0).blk t).view.read (Elt F) (V1 m c (Pipeline.arrRef spec0 0))
abbrev kBlk (c : Dev nD) (t : Fin cfg0.N) : Vec F S1x128x1024 .bf16 := ((cfg0.win 1).blk t).view.read (Elt F) (V1 m c (Pipeline.arrRef spec0 1))
abbrev vBlk (c : Dev nD) (t : Fin cfg0.N) : Vec F S1x128x1024 .bf16 := ((cfg0.win 2).blk t).view.read (Elt F) (V1 m c (Pipeline.arrRef spec0 2))

/-- The triple a point stores a row of: from the query, key and value blocks. -/
def rowT (xq : Vec F S1x1x16x64 .bf16) (xk xv : Vec F S1x128x1024 .bf16) : (i : Fin 3) → Vec F (match i with | 0 => S1x16x64 | 1 => S1x16x1 | 2 => S1x16x1) .f32
  | 0 => k0_pay40 (k0_pay35 xq) (k0_pay36 xk) acc0 xv
  | 1 => k0_pay41 (k0_pay35 xq) (k0_pay36 xk) acc0
  | 2 => k0_pay42 (k0_pay35 xq) (k0_pay36 xk) acc0

/-- Device `c`'s own triple: row `b` from the blocks of grid point `b`. -/
def ownT (c : Dev nD) : Trip F
  | 0 => fun y => rowT (qBlk m c (pt (y 0))) (kBlk m c (pt (y 0))) (vBlk m c (pt (y 0))) 0 (fun x => match x with | ⟨0, _⟩ => (0 : Fin 1) | ⟨1, _⟩ => y 1 | ⟨2, _⟩ => y 2)
  | 1 => fun y => rowT (qBlk m c (pt (y 0))) (kBlk m c (pt (y 0))) (vBlk m c (pt (y 0))) 1 (fun x => match x with | ⟨0, _⟩ => (0 : Fin 1) | ⟨1, _⟩ => y 1 | ⟨2, _⟩ => y 2)
  | 2 => fun y => rowT (qBlk m c (pt (y 0))) (kBlk m c (pt (y 0))) (vBlk m c (pt (y 0))) 2 (fun x => match x with | ⟨0, _⟩ => (0 : Fin 1) | ⟨1, _⟩ => y 1 | ⟨2, _⟩ => y 2)

theorem pt_of (t : Fin cfg0.N) (b : Fin 16) (h : b.val = t.val) : pt b = t := Fin.ext h

theorem row0 (c : Dev nD) (t : Fin cfg0.N) : isRow (n := 64) t.val (ownT m c 0) (rowT (qBlk m c t) (kBlk m c t) (vBlk m c t) 0) := by
  intro b h d hb
  obtain rfl := pt_of t b hb
  rfl
theorem row1 (c : Dev nD) (t : Fin cfg0.N) : isRow (n := 1) t.val (ownT m c 1) (rowT (qBlk m c t) (kBlk m c t) (vBlk m c t) 1) := by
  intro b h d hb
  obtain rfl := pt_of t b hb
  rfl
theorem row2 (c : Dev nD) (t : Fin cfg0.N) : isRow (n := 1) t.val (ownT m c 2) (rowT (qBlk m c t) (kBlk m c t) (vBlk m c t) 2) := by
  intro b h d hb
  obtain rfl := pt_of t b hb
  rfl

/-! ## The conditions over the grid -/

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 15 := by decide +kernel
theorem off1_eq : ∀ t : Fin cfg0.N, k0_off1 (grid0.coords t) = ![t.val, 0, 0] := by decide +kernel
theorem off2_eq : ∀ t : Fin cfg0.N, k0_off2 (grid0.coords t) = ![t.val, 0, 0] := by decide +kernel
theorem lt16 (t : Fin cfg0.N) : t.val < 16 := lt_of_lt_of_eq t.isLt N_0

/-! ## The proof data -/

/-- What the last point writes on device `c`. -/
def outV (c : Dev nD) : Vec F S16x1x16x64 .f32 := outOf (st (ownT m) 4 c)

def dat (c : Dev nD) : Dat τ (Elt F) Unit ℕ UU ℕ cfg0 c where
  A w := V1 m c (Pipeline.arrRef spec0 w)
  after w t := match w with
    | ⟨0, _⟩ => qBlk m c t
    | ⟨1, _⟩ => kBlk m c t
    | ⟨2, _⟩ => vBlk m c t
    | ⟨3, _⟩ => outV m c
  Φ t := iprop(inv (ownT m) t.val c ∗ ∃ r, prngReg c r)
  q _ := fullShare
  owed t := owedAt t.val c

theorem share_eq (c : Dev nD) (w : Fin cfg0.W) : (dat m c).share w = fullShare := by unfold Dat.share; split <;> rfl

theorem before_0 (c : Dev nD) (t : Fin cfg0.N) (d : (cfg0.win 0).block.Idx → Elt F (cfg0.win 0).elt) : (dat m c).before 0 t d = qBlk m c t := by
  unfold Dat.before; rw [if_pos (fetch0_0 t)]; rfl
theorem before_1 (c : Dev nD) (t : Fin cfg0.N) (d : (cfg0.win 1).block.Idx → Elt F (cfg0.win 1).elt) : (dat m c).before 1 t d = kBlk m c t := by
  unfold Dat.before; rw [if_pos (fetch0_1 t)]; rfl
theorem before_2 (c : Dev nD) (t : Fin cfg0.N) (d : (cfg0.win 2).block.Idx → Elt F (cfg0.win 2).elt) : (dat m c).before 2 t d = vBlk m c t := by
  unfold Dat.before; rw [if_pos (fetch0_2 t)]; rfl

theorem idle3_last (t : Fin cfg0.N) (h : t.val = 15) : cfg0.idle 3 (cfg0.grid.coords t) = false := by
  show (!(k0_cond2 (grid0.coords t) == 1#1)) = false
  rw [(cond2_iff t).mpr h]; rfl
theorem idle3_other (t : Fin cfg0.N) (h : ¬ t.val = 15) : cfg0.idle 3 (cfg0.grid.coords t) = true := by
  show (!(k0_cond2 (grid0.coords t) == 1#1)) = true
  have hn : ¬ k0_cond2 (grid0.coords t) = 1#1 := fun e => h ((cond2_iff t).mp e)
  rw [beq_eq_false_iff_ne.mpr hn]; rfl
theorem flush3_other (t : Fin cfg0.N) (h : ¬ t.val = 15) : (cfg0.win 3).flush t = false := by
  have := lt16 t
  exact Bool.eq_false_iff.mpr fun e => h (by have := (flush0_3 t).mp e; omega)

/-- The output's buffer after the body, as the obligation names it. -/
theorem leaves_3 (c : Dev nD) (t : Fin cfg0.N) (d : (cfg0.win 3).block.Idx → Elt F (cfg0.win 3).elt) :
    owns (c : Thread nD τ) ((cfg0.win 3).stage (cfg0.slots t 3)) fullShare (if t.val = 15 then outV m c else (dat m c).before 3 t d)
      ⊢ (match cfg0.idle 3 (cfg0.grid.coords t) with
          | true => match (cfg0.win 3).flush t with
            | false => iprop(∃ d, owns (c : Thread nD τ) ((cfg0.win 3).stage (cfg0.slots t 3)) fullShare ((dat m c).before 3 t d))
            | true => owns (c : Thread nD τ) ((cfg0.win 3).stage (cfg0.slots t 3)) fullShare ((dat m c).after 3 t)
          | false => owns (c : Thread nD τ) ((cfg0.win 3).stage (cfg0.slots t 3)) fullShare ((dat m c).after 3 t) : sProp 𝕄) := by
  by_cases h : t.val = 15
  · rw [idle3_last t h, if_pos h]; exact BI.Entails.refl _
  · rw [idle3_other t h, flush3_other t h, if_neg h]
    iintro H; iexists d; iexact H

theorem body_obligation (c : Dev nD) : Pipeline.BodyObligation (dat m c) (defs₀ (F := F)) 𝒱₀ () Set.univ := fun t => by
  rw [bigSep_W0, bigSep_W0]
  have hN := lt16 t
  have hs : (t.castSucc : Fin (cfg0.N + 1)).val = t.val := rfl
  have hs' : (t.succ : Fin (cfg0.N + 1)).val = t.val + 1 := rfl
  rw [show (dat m c).Φ t.castSucc = iprop(inv (ownT m) t.val c ∗ ∃ r, prngReg c r) from rfl,
    show (dat m c).Φ t.succ = iprop(inv (ownT m) (t.val + 1) c ∗ ∃ r, prngReg c r) from rfl]
  unfold Dat.owesAt Pipeline.owesWithin
  rw [show (dat m c).owed t.castSucc = owedAt t.val c from rfl, show (dat m c).owed t.succ = owedAt (t.val + 1) c from rfl]
  iintro ⟨⟨HI, Hreg⟩, ⟨%W, -, HO⟩, ⟨%d0, H0⟩, ⟨%d1, H1⟩, ⟨%d2, H2⟩, ⟨%d3, H3⟩⟩
  ihave H0 := (Entails.of_eq (congrArg (owns (c : Thread nD τ) ((cfg0.win 0).stage (cfg0.slots t 0)) fullShare) (before_0 m c t d0))) $$ H0
  ihave H1 := (Entails.of_eq (congrArg (owns (c : Thread nD τ) ((cfg0.win 1).stage (cfg0.slots t 1)) fullShare) (before_1 m c t d1))) $$ H1
  ihave H2 := (Entails.of_eq (congrArg (owns (c : Thread nD τ) ((cfg0.win 2).stage (cfg0.slots t 2)) fullShare) (before_2 m c t d2))) $$ H2
  iapply (point_run (ownT m) (grid0.coords t) _ _ _ _ _ _ _ _ c (qBlk m c t) (kBlk m c t) (vBlk m c t) ((dat m c).before 3 t d3) t.val hN
    (cond1_iff t) (cond2_iff t) (off1_eq t) (off2_eq t) (row0 m c t) (row1 m c t) (row2 m c t)) $$ [HI HO H0 H1 H2 H3]
  · isplitl [HI]; · iexact HI
    isplitl [HO]; · iexists W; iexact HO
    isplitl [H0 H1 H2]
    · unfold blocks
      isplitl [H0]; · iexact H0
      isplitl [H1]; · iexact H1
      iexact H2
    iexact H3
  unfold blocks
  iintro ⟨HI, ⟨%W', HO⟩, ⟨H0, H1, H2⟩, H3⟩
  isplitl [HI Hreg]
  · isplitl [HI]; · iexact HI
    iexact Hreg
  isplitl [HO]
  · iexists W'
    isplitr; · ipureintro; exact fun _ _ => Or.inl trivial
    iexact HO
  isplitl [H0]; · iexact H0
  isplitl [H1]; · iexact H1
  isplitl [H2]; · iexact H2
  iapply (leaves_3 m c t d3)
  iexact H3

end Cert.KernelIdeal.Exchange

end
-- ==== Proof.Entry.lean ====
/- Entering and leaving the kernel's region: the receive buffers cut into their slabs and joined again, the kernel's
   semaphores opened, and the region's record. -/
module

public import proofs.«01_k».proof.Proof.Region
public import Idealize.ShloMosaic.Lib.Ring

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ UU ℕ

/-- The elements of slab `s`. -/
def cutO (s : Fin 4) : Finset S4x16x16x64.Idx := Finset.univ.filter fun y => (y 0).val = s.val
theorem cutO_disj (s s' : Fin 4) (h : s ≠ s') : Disjoint (cutO s) (cutO s') := by
  rw [Finset.disjoint_left]; intro y h1 h2
  exact h (Fin.ext ((Finset.mem_filter.mp h1).2.symm.trans (Finset.mem_filter.mp h2).2))
theorem cutO_cover : Finset.univ.biUnion cutO = Finset.univ := by
  ext y
  simp only [Finset.mem_biUnion, Finset.mem_univ, true_and, iff_true]
  exact ⟨y 0, Finset.mem_filter.mpr ⟨Finset.mem_univ _, rfl⟩⟩
theorem unit_O (k : ℕ) (s : Fin 4) (hk : k = s.val) (inb : ∀ a, (![k, 0, 0, 0] : Fin 4 → ℕ) a + S1x16x16x64.size a ≤ S4x16x16x64.size a) :
    (Rect.unit (s := S4x16x16x64) ![k, 0, 0, 0] S1x16x16x64.size inb).set = cutO s := by
  ext y
  rw [Rect.mem_set_unit]
  unfold cutO
  simp only [Finset.mem_filter, Finset.mem_univ, true_and]
  rw [← hk]
  constructor
  · intro h
    obtain ⟨h1, h2⟩ := h 0
    have h1' : k ≤ (y 0).val := h1
    have h2' : (y 0).val < k + 1 := h2
    omega
  · intro h a
    have l1 : (y 1).val < 16 := (y 1).isLt
    have l2 : (y 2).val < 16 := (y 2).isLt
    have l3 : (y 3).val < 64 := (y 3).isLt
    match a with
    | ⟨0, _⟩ => exact ⟨by show k ≤ (y 0).val; omega, by show (y 0).val < k + 1; omega⟩
    | ⟨1, _⟩ => exact ⟨Nat.zero_le _, by show (y 1).val < 0 + 16; omega⟩
    | ⟨2, _⟩ => exact ⟨Nat.zero_le _, by show (y 2).val < 0 + 16; omega⟩
    | ⟨3, _⟩ => exact ⟨Nat.zero_le _, by show (y 3).val < 0 + 64; omega⟩

/-- A slab of component 0 at some contents, as a part of its buffer. -/
theorem slabAny_O (c : Dev nD) : ∀ s : Fin 4,
    (slabAny s 0 c : sProp 𝕄) = iprop(∃ f : Buf (Elt F) ((c : Thread nD τ).loc cc0_scratch3), ((c : Thread nD τ).loc cc0_scratch3) ↦[cutO s]{fullShare} f)
  | 0 => by
    have e : (slabAny 0 0 c : sProp 𝕄)
        = iprop(∃ X : Vec F S16x16x64 .f32, ∃ f : Buf (Elt F) ((c : Thread nD τ).loc cc0_scratch3), ⌜(slabO 0).view.read (Elt F) f = X⌝ ∗ (((c : Thread nD τ).loc cc0_scratch3) ↦[((slabO 0).view.set : Finset S4x16x16x64.Idx)]{fullShare} f)) := rfl
    have hs : ((slabO 0).view.set : Finset S4x16x16x64.Idx) = cutO 0 :=
      (View.set_reshape _ _).trans ((View.set_slice_whole _ _).trans (unit_O 0 0 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H
  | 1 => by
    have e : (slabAny 1 0 c : sProp 𝕄)
        = iprop(∃ X : Vec F S16x16x64 .f32, ∃ f : Buf (Elt F) ((c : Thread nD τ).loc cc0_scratch3), ⌜(slabO 1).view.read (Elt F) f = X⌝ ∗ (((c : Thread nD τ).loc cc0_scratch3) ↦[((slabO 1).view.set : Finset S4x16x16x64.Idx)]{fullShare} f)) := rfl
    have hs : ((slabO 1).view.set : Finset S4x16x16x64.Idx) = cutO 1 :=
      (View.set_reshape _ _).trans ((View.set_slice_whole _ _).trans (unit_O 1 1 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H
  | 2 => by
    have e : (slabAny 2 0 c : sProp 𝕄)
        = iprop(∃ X : Vec F S16x16x64 .f32, ∃ f : Buf (Elt F) ((c : Thread nD τ).loc cc0_scratch3), ⌜(slabO 2).view.read (Elt F) f = X⌝ ∗ (((c : Thread nD τ).loc cc0_scratch3) ↦[((slabO 2).view.set : Finset S4x16x16x64.Idx)]{fullShare} f)) := rfl
    have hs : ((slabO 2).view.set : Finset S4x16x16x64.Idx) = cutO 2 :=
      (View.set_reshape _ _).trans ((View.set_slice_whole _ _).trans (unit_O 2 2 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H
  | 3 => by
    have e : (slabAny 3 0 c : sProp 𝕄)
        = iprop(∃ X : Vec F S16x16x64 .f32, ∃ f : Buf (Elt F) ((c : Thread nD τ).loc cc0_scratch3), ⌜(slabO 3).view.read (Elt F) f = X⌝ ∗ (((c : Thread nD τ).loc cc0_scratch3) ↦[((slabO 3).view.set : Finset S4x16x16x64.Idx)]{fullShare} f)) := rfl
    have hs : ((slabO 3).view.set : Finset S4x16x16x64.Idx) = cutO 3 :=
      (View.set_reshape _ _).trans ((View.set_slice_whole _ _).trans (unit_O 3 3 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H

theorem split_O (c : Dev nD) : iprop(∃ f : Buf (Elt F) ((c : Thread nD τ).loc cc0_scratch3), ((c : Thread nD τ).loc cc0_scratch3) ↦{fullShare} f)
    ⊢ (bigSep Finset.univ fun s : Fin 4 => slabAny s 0 c : sProp 𝕄) := by
  have h : ∀ f : Buf (Elt F) ((c : Thread nD τ).loc cc0_scratch3), (((c : Thread nD τ).loc cc0_scratch3) ↦{fullShare} f : sProp 𝕄) ⊢ bigSep Finset.univ fun s : Fin 4 => slabAny s 0 c := fun f => by
    rw [Idealize.ShloMosaic.Ring.pointsTo_blocks (ℓ := (c : Thread nD τ).loc cc0_scratch3) cutO cutO_disj cutO_cover f]
    exact bigSep_mono fun s _ => by rw [slabAny_O]; show (_ : sProp 𝕄) ⊢ _; iintro H; iexists f; iexact H
  iintro ⟨%f, H⟩
  iapply (h f); iexact H
theorem join_O (c : Dev nD) : (bigSep Finset.univ fun s : Fin 4 => slabAny s 0 c : sProp 𝕄)
    ⊢ iprop(∃ f : Buf (Elt F) ((c : Thread nD τ).loc cc0_scratch3), ((c : Thread nD τ).loc cc0_scratch3) ↦{fullShare} f) := by
  rw [bigSep_congr (s := Finset.univ) fun (s : Fin 4) _ => slabAny_O (F := F) c s]
  exact Idealize.ShloMosaic.Ring.pointsTo_blocks_join_exists (ℓ := (c : Thread nD τ).loc cc0_scratch3) cutO cutO_disj cutO_cover (fun _ => FloatOps.ofBits _ 0)

/-- The elements of slab `s`. -/
def cutM (s : Fin 4) : Finset S4x16x16x1.Idx := Finset.univ.filter fun y => (y 0).val = s.val
theorem cutM_disj (s s' : Fin 4) (h : s ≠ s') : Disjoint (cutM s) (cutM s') := by
  rw [Finset.disjoint_left]; intro y h1 h2
  exact h (Fin.ext ((Finset.mem_filter.mp h1).2.symm.trans (Finset.mem_filter.mp h2).2))
theorem cutM_cover : Finset.univ.biUnion cutM = Finset.univ := by
  ext y
  simp only [Finset.mem_biUnion, Finset.mem_univ, true_and, iff_true]
  exact ⟨y 0, Finset.mem_filter.mpr ⟨Finset.mem_univ _, rfl⟩⟩
theorem unit_M (k : ℕ) (s : Fin 4) (hk : k = s.val) (inb : ∀ a, (![k, 0, 0, 0] : Fin 4 → ℕ) a + S1x16x16x1.size a ≤ S4x16x16x1.size a) :
    (Rect.unit (s := S4x16x16x1) ![k, 0, 0, 0] S1x16x16x1.size inb).set = cutM s := by
  ext y
  rw [Rect.mem_set_unit]
  unfold cutM
  simp only [Finset.mem_filter, Finset.mem_univ, true_and]
  rw [← hk]
  constructor
  · intro h
    obtain ⟨h1, h2⟩ := h 0
    have h1' : k ≤ (y 0).val := h1
    have h2' : (y 0).val < k + 1 := h2
    omega
  · intro h a
    have l1 : (y 1).val < 16 := (y 1).isLt
    have l2 : (y 2).val < 16 := (y 2).isLt
    have l3 : (y 3).val < 1 := (y 3).isLt
    match a with
    | ⟨0, _⟩ => exact ⟨by show k ≤ (y 0).val; omega, by show (y 0).val < k + 1; omega⟩
    | ⟨1, _⟩ => exact ⟨Nat.zero_le _, by show (y 1).val < 0 + 16; omega⟩
    | ⟨2, _⟩ => exact ⟨Nat.zero_le _, by show (y 2).val < 0 + 16; omega⟩
    | ⟨3, _⟩ => exact ⟨Nat.zero_le _, by show (y 3).val < 0 + 1; omega⟩

/-- A slab of component 1 at some contents, as a part of its buffer. -/
theorem slabAny_M (c : Dev nD) : ∀ s : Fin 4,
    (slabAny s 1 c : sProp 𝕄) = iprop(∃ f : Buf (Elt F) ((c : Thread nD τ).loc cc0_scratch4), ((c : Thread nD τ).loc cc0_scratch4) ↦[cutM s]{fullShare} f)
  | 0 => by
    have e : (slabAny 0 1 c : sProp 𝕄)
        = iprop(∃ X : Vec F S16x16x1 .f32, ∃ f : Buf (Elt F) ((c : Thread nD τ).loc cc0_scratch4), ⌜(slabM 0).view.read (Elt F) f = X⌝ ∗ (((c : Thread nD τ).loc cc0_scratch4) ↦[((slabM 0).view.set : Finset S4x16x16x1.Idx)]{fullShare} f)) := rfl
    have hs : ((slabM 0).view.set : Finset S4x16x16x1.Idx) = cutM 0 :=
      (View.set_reshape _ _).trans ((View.set_slice_whole _ _).trans (unit_M 0 0 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H
  | 1 => by
    have e : (slabAny 1 1 c : sProp 𝕄)
        = iprop(∃ X : Vec F S16x16x1 .f32, ∃ f : Buf (Elt F) ((c : Thread nD τ).loc cc0_scratch4), ⌜(slabM 1).view.read (Elt F) f = X⌝ ∗ (((c : Thread nD τ).loc cc0_scratch4) ↦[((slabM 1).view.set : Finset S4x16x16x1.Idx)]{fullShare} f)) := rfl
    have hs : ((slabM 1).view.set : Finset S4x16x16x1.Idx) = cutM 1 :=
      (View.set_reshape _ _).trans ((View.set_slice_whole _ _).trans (unit_M 1 1 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H
  | 2 => by
    have e : (slabAny 2 1 c : sProp 𝕄)
        = iprop(∃ X : Vec F S16x16x1 .f32, ∃ f : Buf (Elt F) ((c : Thread nD τ).loc cc0_scratch4), ⌜(slabM 2).view.read (Elt F) f = X⌝ ∗ (((c : Thread nD τ).loc cc0_scratch4) ↦[((slabM 2).view.set : Finset S4x16x16x1.Idx)]{fullShare} f)) := rfl
    have hs : ((slabM 2).view.set : Finset S4x16x16x1.Idx) = cutM 2 :=
      (View.set_reshape _ _).trans ((View.set_slice_whole _ _).trans (unit_M 2 2 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H
  | 3 => by
    have e : (slabAny 3 1 c : sProp 𝕄)
        = iprop(∃ X : Vec F S16x16x1 .f32, ∃ f : Buf (Elt F) ((c : Thread nD τ).loc cc0_scratch4), ⌜(slabM 3).view.read (Elt F) f = X⌝ ∗ (((c : Thread nD τ).loc cc0_scratch4) ↦[((slabM 3).view.set : Finset S4x16x16x1.Idx)]{fullShare} f)) := rfl
    have hs : ((slabM 3).view.set : Finset S4x16x16x1.Idx) = cutM 3 :=
      (View.set_reshape _ _).trans ((View.set_slice_whole _ _).trans (unit_M 3 3 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H

theorem split_M (c : Dev nD) : iprop(∃ f : Buf (Elt F) ((c : Thread nD τ).loc cc0_scratch4), ((c : Thread nD τ).loc cc0_scratch4) ↦{fullShare} f)
    ⊢ (bigSep Finset.univ fun s : Fin 4 => slabAny s 1 c : sProp 𝕄) := by
  have h : ∀ f : Buf (Elt F) ((c : Thread nD τ).loc cc0_scratch4), (((c : Thread nD τ).loc cc0_scratch4) ↦{fullShare} f : sProp 𝕄) ⊢ bigSep Finset.univ fun s : Fin 4 => slabAny s 1 c := fun f => by
    rw [Idealize.ShloMosaic.Ring.pointsTo_blocks (ℓ := (c : Thread nD τ).loc cc0_scratch4) cutM cutM_disj cutM_cover f]
    exact bigSep_mono fun s _ => by rw [slabAny_M]; show (_ : sProp 𝕄) ⊢ _; iintro H; iexists f; iexact H
  iintro ⟨%f, H⟩
  iapply (h f); iexact H
theorem join_M (c : Dev nD) : (bigSep Finset.univ fun s : Fin 4 => slabAny s 1 c : sProp 𝕄)
    ⊢ iprop(∃ f : Buf (Elt F) ((c : Thread nD τ).loc cc0_scratch4), ((c : Thread nD τ).loc cc0_scratch4) ↦{fullShare} f) := by
  rw [bigSep_congr (s := Finset.univ) fun (s : Fin 4) _ => slabAny_M (F := F) c s]
  exact Idealize.ShloMosaic.Ring.pointsTo_blocks_join_exists (ℓ := (c : Thread nD τ).loc cc0_scratch4) cutM cutM_disj cutM_cover (fun _ => FloatOps.ofBits _ 0)

/-- The elements of slab `s`. -/
def cutL (s : Fin 4) : Finset S4x16x16x1.Idx := Finset.univ.filter fun y => (y 0).val = s.val
theorem cutL_disj (s s' : Fin 4) (h : s ≠ s') : Disjoint (cutL s) (cutL s') := by
  rw [Finset.disjoint_left]; intro y h1 h2
  exact h (Fin.ext ((Finset.mem_filter.mp h1).2.symm.trans (Finset.mem_filter.mp h2).2))
theorem cutL_cover : Finset.univ.biUnion cutL = Finset.univ := by
  ext y
  simp only [Finset.mem_biUnion, Finset.mem_univ, true_and, iff_true]
  exact ⟨y 0, Finset.mem_filter.mpr ⟨Finset.mem_univ _, rfl⟩⟩
theorem unit_L (k : ℕ) (s : Fin 4) (hk : k = s.val) (inb : ∀ a, (![k, 0, 0, 0] : Fin 4 → ℕ) a + S1x16x16x1.size a ≤ S4x16x16x1.size a) :
    (Rect.unit (s := S4x16x16x1) ![k, 0, 0, 0] S1x16x16x1.size inb).set = cutL s := by
  ext y
  rw [Rect.mem_set_unit]
  unfold cutL
  simp only [Finset.mem_filter, Finset.mem_univ, true_and]
  rw [← hk]
  constructor
  · intro h
    obtain ⟨h1, h2⟩ := h 0
    have h1' : k ≤ (y 0).val := h1
    have h2' : (y 0).val < k + 1 := h2
    omega
  · intro h a
    have l1 : (y 1).val < 16 := (y 1).isLt
    have l2 : (y 2).val < 16 := (y 2).isLt
    have l3 : (y 3).val < 1 := (y 3).isLt
    match a with
    | ⟨0, _⟩ => exact ⟨by show k ≤ (y 0).val; omega, by show (y 0).val < k + 1; omega⟩
    | ⟨1, _⟩ => exact ⟨Nat.zero_le _, by show (y 1).val < 0 + 16; omega⟩
    | ⟨2, _⟩ => exact ⟨Nat.zero_le _, by show (y 2).val < 0 + 16; omega⟩
    | ⟨3, _⟩ => exact ⟨Nat.zero_le _, by show (y 3).val < 0 + 1; omega⟩

/-- A slab of component 2 at some contents, as a part of its buffer. -/
theorem slabAny_L (c : Dev nD) : ∀ s : Fin 4,
    (slabAny s 2 c : sProp 𝕄) = iprop(∃ f : Buf (Elt F) ((c : Thread nD τ).loc cc0_scratch5), ((c : Thread nD τ).loc cc0_scratch5) ↦[cutL s]{fullShare} f)
  | 0 => by
    have e : (slabAny 0 2 c : sProp 𝕄)
        = iprop(∃ X : Vec F S16x16x1 .f32, ∃ f : Buf (Elt F) ((c : Thread nD τ).loc cc0_scratch5), ⌜(slabL 0).view.read (Elt F) f = X⌝ ∗ (((c : Thread nD τ).loc cc0_scratch5) ↦[((slabL 0).view.set : Finset S4x16x16x1.Idx)]{fullShare} f)) := rfl
    have hs : ((slabL 0).view.set : Finset S4x16x16x1.Idx) = cutL 0 :=
      (View.set_reshape _ _).trans ((View.set_slice_whole _ _).trans (unit_L 0 0 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H
  | 1 => by
    have e : (slabAny 1 2 c : sProp 𝕄)
        = iprop(∃ X : Vec F S16x16x1 .f32, ∃ f : Buf (Elt F) ((c : Thread nD τ).loc cc0_scratch5), ⌜(slabL 1).view.read (Elt F) f = X⌝ ∗ (((c : Thread nD τ).loc cc0_scratch5) ↦[((slabL 1).view.set : Finset S4x16x16x1.Idx)]{fullShare} f)) := rfl
    have hs : ((slabL 1).view.set : Finset S4x16x16x1.Idx) = cutL 1 :=
      (View.set_reshape _ _).trans ((View.set_slice_whole _ _).trans (unit_L 1 1 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H
  | 2 => by
    have e : (slabAny 2 2 c : sProp 𝕄)
        = iprop(∃ X : Vec F S16x16x1 .f32, ∃ f : Buf (Elt F) ((c : Thread nD τ).loc cc0_scratch5), ⌜(slabL 2).view.read (Elt F) f = X⌝ ∗ (((c : Thread nD τ).loc cc0_scratch5) ↦[((slabL 2).view.set : Finset S4x16x16x1.Idx)]{fullShare} f)) := rfl
    have hs : ((slabL 2).view.set : Finset S4x16x16x1.Idx) = cutL 2 :=
      (View.set_reshape _ _).trans ((View.set_slice_whole _ _).trans (unit_L 2 2 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H
  | 3 => by
    have e : (slabAny 3 2 c : sProp 𝕄)
        = iprop(∃ X : Vec F S16x16x1 .f32, ∃ f : Buf (Elt F) ((c : Thread nD τ).loc cc0_scratch5), ⌜(slabL 3).view.read (Elt F) f = X⌝ ∗ (((c : Thread nD τ).loc cc0_scratch5) ↦[((slabL 3).view.set : Finset S4x16x16x1.Idx)]{fullShare} f)) := rfl
    have hs : ((slabL 3).view.set : Finset S4x16x16x1.Idx) = cutL 3 :=
      (View.set_reshape _ _).trans ((View.set_slice_whole _ _).trans (unit_L 3 3 rfl _))
    rw [e, hs]
    refine BI.equiv_iff.mp ⟨?_, ?_⟩
    · show (_ : sProp 𝕄) ⊢ _
      iintro ⟨%X, %f, -, H⟩; iexists f; iexact H
    · show (_ : sProp 𝕄) ⊢ _
      iintro ⟨%f, H⟩; iexists _; iexists f; isplitr; · ipureintro; rfl
      iexact H

theorem split_L (c : Dev nD) : iprop(∃ f : Buf (Elt F) ((c : Thread nD τ).loc cc0_scratch5), ((c : Thread nD τ).loc cc0_scratch5) ↦{fullShare} f)
    ⊢ (bigSep Finset.univ fun s : Fin 4 => slabAny s 2 c : sProp 𝕄) := by
  have h : ∀ f : Buf (Elt F) ((c : Thread nD τ).loc cc0_scratch5), (((c : Thread nD τ).loc cc0_scratch5) ↦{fullShare} f : sProp 𝕄) ⊢ bigSep Finset.univ fun s : Fin 4 => slabAny s 2 c := fun f => by
    rw [Idealize.ShloMosaic.Ring.pointsTo_blocks (ℓ := (c : Thread nD τ).loc cc0_scratch5) cutL cutL_disj cutL_cover f]
    exact bigSep_mono fun s _ => by rw [slabAny_L]; show (_ : sProp 𝕄) ⊢ _; iintro H; iexists f; iexact H
  iintro ⟨%f, H⟩
  iapply (h f); iexact H
theorem join_L (c : Dev nD) : (bigSep Finset.univ fun s : Fin 4 => slabAny s 2 c : sProp 𝕄)
    ⊢ iprop(∃ f : Buf (Elt F) ((c : Thread nD τ).loc cc0_scratch5), ((c : Thread nD τ).loc cc0_scratch5) ↦{fullShare} f) := by
  rw [bigSep_congr (s := Finset.univ) fun (s : Fin 4) _ => slabAny_L (F := F) c s]
  exact Idealize.ShloMosaic.Ring.pointsTo_blocks_join_exists (ℓ := (c : Thread nD τ).loc cc0_scratch5) cutL cutL_disj cutL_cover (fun _ => FloatOps.ofBits _ 0)

/-! ## The kernel's fifteen semaphores -/

theorem chain15 (Φ : SemLoc sig → sProp 𝕄) : (bigSep Finset.univ fun k : Fin 15 => Φ (osem k)) = iprop(Φ (.dma (sendQ 0)) ∗ Φ (.dma (sendQ 1)) ∗ Φ (.dma (sendQ 2)) ∗ Φ (.dma (recvQ 0 0)) ∗ Φ (.dma (recvQ 0 1)) ∗ Φ (.dma (recvQ 0 2)) ∗ Φ (.dma (recvQ 1 0)) ∗ Φ (.dma (recvQ 1 1)) ∗ Φ (.dma (recvQ 1 2)) ∗ Φ (.dma (recvQ 2 0)) ∗ Φ (.dma (recvQ 2 1)) ∗ Φ (.dma (recvQ 2 2)) ∗ Φ (.dma (recvQ 3 0)) ∗ Φ (.dma (recvQ 3 1)) ∗ Φ (.dma (recvQ 3 2))) :=
  bigSep_univ_eq_bigSepL [(0 : Fin 15), 1, 2, 3, 4, 5, 6, 7, 8, 9, 10, 11, 12, 13, 14] (by decide) (by decide) fun k => Φ (osem k)

/-- The three send semaphores, and the twelve receive semaphores by stage and component. -/
theorem split15 (Φ : SemLoc sig → sProp 𝕄) : (bigSep Finset.univ fun k : Fin 15 => Φ (osem k))
    = iprop((bigSep Finset.univ fun i : Fin 3 => Φ (.dma (sendQ i))) ∗ (bigSep Finset.univ fun s : Fin 4 => bigSep Finset.univ fun i : Fin 3 => Φ (.dma (recvQ s i)))) := by
  rw [chain15, bigSep_comps, bigSep_stages, bigSep_comps, bigSep_comps, bigSep_comps, bigSep_comps]
  refine BI.equiv_iff.mp ⟨?_, ?_⟩
  · show (_ : sProp 𝕄) ⊢ _
    iintro ⟨H0, H1, H2, H3, H4, H5, H6, H7, H8, H9, H10, H11, H12, H13, H14⟩
    isplitl [H0 H1 H2]
    · isplitl [H0]; · iexact H0
      isplitl [H1]; · iexact H1
      iexact H2
    isplitl [H3 H4 H5]
    · isplitl [H3]; · iexact H3
      isplitl [H4]; · iexact H4
      iexact H5
    isplitl [H6 H7 H8]
    · isplitl [H6]; · iexact H6
      isplitl [H7]; · iexact H7
      iexact H8
    isplitl [H9 H10 H11]
    · isplitl [H9]; · iexact H9
      isplitl [H10]; · iexact H10
      iexact H11
    isplitl [H12]; · iexact H12
    isplitl [H13]; · iexact H13
    iexact H14
  · show (_ : sProp 𝕄) ⊢ _
    iintro ⟨⟨H0, H1, H2⟩, ⟨H3, H4, H5⟩, ⟨H6, H7, H8⟩, ⟨H9, H10, H11⟩, ⟨H12, H13, H14⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

section Open

variable (A : Dev nD → Trip F)

theorem open_one (κ : GSem nD τ sig → ℕ) (c : Dev nD) (k : Fin 15) :
    iprop(records A κ ∗ openTok ER ((c : Thread nD τ), osem k) ∗ semVal ((c : Thread nD τ), osem k) 0)
      ⊢ (|={Set.univ}=> iprop(atPos ER ((c : Thread nD τ), osem k) 0 ∅ 0 ∗ reached ER ((c : Thread nD τ), osem k) 0) : sProp 𝕄) := by
  iintro ⟨#HR, Ho, Hs⟩
  iapply (Rounds.cell_open ER (sched A) (g := ((c : Thread nD τ), osem k)) (Set.mem_univ (κ _)))
  isplitr; · iapply (inv_at A κ (osem_mem c k)); iexact HR
  isplitl [Ho] <;> iassumption

/-- All fifteen opened. -/
theorem open_all (κ : GSem nD τ sig → ℕ) (c : Dev nD) :
    iprop(records A κ ∗ (bigSep Finset.univ fun k : Fin 15 => openTok ER ((c : Thread nD τ), osem k)) ∗ Pipeline.ownSems0 osem c)
      ⊢ (|={Set.univ}=> (bigSep Finset.univ fun k : Fin 15 => iprop(atPos ER ((c : Thread nD τ), osem k) 0 ∅ 0 ∗ reached ER ((c : Thread nD τ), osem k) 0)) : sProp 𝕄) := by
  unfold Pipeline.ownSems0
  rw [chain15 (fun sm => (openTok ER ((c : Thread nD τ), sm) : sProp 𝕄)), chain15 (fun sm => (semVal ((c : Thread nD τ), sm) 0 : sProp 𝕄)),
    chain15 (fun sm => (iprop(atPos ER ((c : Thread nD τ), sm) 0 ∅ 0 ∗ reached ER ((c : Thread nD τ), sm) 0) : sProp 𝕄))]
  iintro ⟨#HR, ⟨O0, O1, O2, O3, O4, O5, O6, O7, O8, O9, O10, O11, O12, O13, O14⟩, ⟨S0, S1, S2, S3, S4, S5, S6, S7, S8, S9, S10, S11, S12, S13, S14⟩⟩
  imod (open_one A κ c 0) $$ [O0 S0] with H0
  · isplitr; · iexact HR
    isplitl [O0]; · iexact O0
    iexact S0
  imod (open_one A κ c 1) $$ [O1 S1] with H1
  · isplitr; · iexact HR
    isplitl [O1]; · iexact O1
    iexact S1
  imod (open_one A κ c 2) $$ [O2 S2] with H2
  · isplitr; · iexact HR
    isplitl [O2]; · iexact O2
    iexact S2
  imod (open_one A κ c 3) $$ [O3 S3] with H3
  · isplitr; · iexact HR
    isplitl [O3]; · iexact O3
    iexact S3
  imod (open_one A κ c 4) $$ [O4 S4] with H4
  · isplitr; · iexact HR
    isplitl [O4]; · iexact O4
    iexact S4
  imod (open_one A κ c 5) $$ [O5 S5] with H5
  · isplitr; · iexact HR
    isplitl [O5]; · iexact O5
    iexact S5
  imod (open_one A κ c 6) $$ [O6 S6] with H6
  · isplitr; · iexact HR
    isplitl [O6]; · iexact O6
    iexact S6
  imod (open_one A κ c 7) $$ [O7 S7] with H7
  · isplitr; · iexact HR
    isplitl [O7]; · iexact O7
    iexact S7
  imod (open_one A κ c 8) $$ [O8 S8] with H8
  · isplitr; · iexact HR
    isplitl [O8]; · iexact O8
    iexact S8
  imod (open_one A κ c 9) $$ [O9 S9] with H9
  · isplitr; · iexact HR
    isplitl [O9]; · iexact O9
    iexact S9
  imod (open_one A κ c 10) $$ [O10 S10] with H10
  · isplitr; · iexact HR
    isplitl [O10]; · iexact O10
    iexact S10
  imod (open_one A κ c 11) $$ [O11 S11] with H11
  · isplitr; · iexact HR
    isplitl [O11]; · iexact O11
    iexact S11
  imod (open_one A κ c 12) $$ [O12 S12] with H12
  · isplitr; · iexact HR
    isplitl [O12]; · iexact O12
    iexact S12
  imod (open_one A κ c 13) $$ [O13 S13] with H13
  · isplitr; · iexact HR
    isplitl [O13]; · iexact O13
    iexact S13
  imod (open_one A κ c 14) $$ [O14 S14] with H14
  · isplitr; · iexact HR
    isplitl [O14]; · iexact O14
    iexact S14
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Open

/-! ## The region's ends -/

variable (m : (ℓ : Loc nD τ sig) → Buf (Elt F) ℓ)

/-- The credit a device starts with. -/
def credit (c : Dev nD) : sProp 𝕄 :=
  iprop(cred (tallyAt (barCell c) () 4) ∗ bigSep Finset.univ fun s : Fin 4 => bigSep Finset.univ fun i : Fin 3 => cred (tallyAt (recvCell s i c) () (N i)))
/-- What is a device's own: its barrier position, the rights to open its semaphores, the tokens of what it pays. -/
def linear (c : Dev nD) : sProp 𝕄 :=
  iprop(atPos ER (barCell c) 0 ∅ 0 ∗ (bigSep Finset.univ fun k : Fin 15 => openTok ER ((c : Thread nD τ), osem k)) ∗ barToks c ∗ payToks c)

/-- What the launch keeps for the region. -/
def Tk (c : Dev nD) : sProp 𝕄 := iprop(∃ κ, records (ownT m) κ ∗ linear c ∗ credit c)
/-- What enters the invariant. -/
def Xk (c : Dev nD) : sProp 𝕄 :=
  iprop(∃ κ, env (ownT m) κ ∗ waits c ∗ sendPoss 0 c ∗ atPos ER (barCell c) 0 ∅ 0 ∗ cred (tallyAt (barCell c) () 4) ∗ barToks c ∗ payToks c ∗ recvOpen c)
/-- What is left after the region. -/
def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  unfold Tk linear credit Xk recvOpen
  iintro ⟨⟨%κ, #HR, ⟨Hat, Hop, Hbt, Hpt⟩, ⟨Hcb, Hcr⟩⟩, Hs, #Hlev⟩
  imod (open_all (ownT m) κ c) $$ [Hop Hs] with H
  · isplitr; · iexact HR
    isplitl [Hop]; · iexact Hop
    iexact Hs
  imodintro
  ihave H := (Entails.of_eq (split15 (fun sm => (iprop(atPos ER ((c : Thread nD τ), sm) 0 ∅ 0 ∗ reached ER ((c : Thread nD τ), sm) 0) : sProp 𝕄)))) $$ H
  icases H with ⟨Hsend, Hrecv⟩
  ihave Hrecv := (Entails.of_eq (show (bigSep Finset.univ fun s : Fin 4 => bigSep Finset.univ fun i : Fin 3 =>
      iprop(atPos ER (recvCell s i c) 0 ∅ 0 ∗ reached ER (recvCell s i c) 0) : sProp 𝕄)
    = iprop((bigSep Finset.univ fun s : Fin 4 => bigSep Finset.univ fun i : Fin 3 => atPos ER (recvCell s i c) 0 ∅ 0)
      ∗ (bigSep Finset.univ fun s : Fin 4 => bigSep Finset.univ fun i : Fin 3 => reached ER (recvCell s i c) 0)) from by
    rw [← bigSep_sep']; exact bigSep_congr fun s _ => bigSep_sep' _ _ _)) $$ Hrecv
  icases Hrecv with ⟨Hra, Hrr⟩
  iexists κ
  isplitr
  · unfold env
    isplitr; · iexact HR
    iexact Hlev
  isplitl [Hcr Hra]
  · iapply (Entails.of_eq (show iprop((bigSep Finset.univ fun s : Fin 4 => bigSep Finset.univ fun i : Fin 3 => cred (tallyAt (recvCell s i c) () (N i)))
        ∗ (bigSep Finset.univ fun s : Fin 4 => bigSep Finset.univ fun i : Fin 3 => atPos ER (recvCell s i c) 0 ∅ 0)) = (waits c : sProp 𝕄) from by
      unfold waits waitRes; rw [← bigSep_sep']; exact bigSep_congr fun s _ => (bigSep_sep' _ _ _).symm))
    isplitl [Hcr]; · iexact Hcr
    iexact Hra
  isplitl [Hsend]
  · iapply (Entails.of_eq (show (bigSep Finset.univ fun i : Fin 3 => iprop(atPos ER (sendCell i c) 0 ∅ 0 ∗ reached ER (sendCell i c) 0) : sProp 𝕄) = sendPoss 0 c from by
      rw [bigSep_comps]; rfl))
    iexact Hsend
  isplitl [Hat]; · iexact Hat
  isplitl [Hcb]; · iexact Hcb
  isplitl [Hbt]; · iexact Hbt
  isplitl [Hpt]; · iexact Hpt
  iexact Hrr

theorem owns_any (c : Dev nD) (b : Ref sig .tc) (X : b.ty.shape.Idx → Elt F b.ty.elt) :
    (owns (c : Thread nD τ) (Memref.whole b) fullShare X : sProp 𝕄) = iprop(∃ f : Buf (Elt F) ((c : Thread nD τ).loc b), ⌜f = X⌝ ∗ ((c : Thread nD τ).loc b) ↦{fullShare} f) := by
  unfold owns; simp only [Memref.view_whole, View.read_whole, View.set_whole]

theorem slabs_eq (c : Dev nD) : (slabs c : sProp 𝕄) = iprop((bigSep Finset.univ fun s : Fin 4 => slabAny s 0 c)
    ∗ (bigSep Finset.univ fun s : Fin 4 => slabAny s 1 c) ∗ (bigSep Finset.univ fun s : Fin 4 => slabAny s 2 c)) := by
  unfold slabs
  rw [bigSep_congr (s := Finset.univ) fun (s : Fin 4) _ => bigSep_comps fun i => (slabAny s i c : sProp 𝕄), bigSep_sep', bigSep_sep']

theorem hin (c : Dev nD) (W : Valuation τ sig (Elt F)) :
    iprop(Pipeline.scopedRest spec0 c ∗ (∃ r, prngReg c r) ∗ StableHlo.held (c.tc : Thread nD τ) ∅ W ∗ Xk m c) ⊢ (dat m c).Φ 0 := by
  rw [show (dat m c).Φ 0 = iprop(inv (ownT m) 0 c ∗ ∃ r, prngReg c r) from rfl, scopedRest0_eq]
  unfold inv Xk rows pre0
  rw [if_neg (by decide : ¬ (0 : ℕ) = 16), if_pos rfl, slabs_eq]
  iintro ⟨⟨⟨%f0, H0⟩, ⟨%f1, H1⟩, ⟨%f2, H2⟩, H3, H4, H5⟩, Hp, -, ⟨%κ, #Henv, Hw, Hsp, Hat, Hcb, Hbt, Hpt, Hro⟩⟩
  isplitr [Hp]
  · iexists κ
    isplitr; · iexact Henv
    isplitl [H0 H1 H2]
    · iexists (fun i => match i with | 0 => f0 | 1 => f1 | 2 => f2 : Trip F)
      isplitr
      · ipureintro
        exact ⟨fun y hy => absurd hy (Nat.not_lt_zero _), fun y hy => absurd hy (Nat.not_lt_zero _), fun y hy => absurd hy (Nat.not_lt_zero _)⟩
      isplitl [H0]
      · iapply (Entails.of_eq (owns_any c cc0_scratch0 f0).symm)
        iexists f0; isplitr; · ipureintro; rfl
        iexact H0
      isplitl [H1]
      · iapply (Entails.of_eq (owns_any c cc0_scratch1 f1).symm)
        iexists f1; isplitr; · ipureintro; rfl
        iexact H1
      · iapply (Entails.of_eq (owns_any c cc0_scratch2 f2).symm)
        iexists f2; isplitr; · ipureintro; rfl
        iexact H2
    isplitl [Hw]; · iexact Hw
    isplitl [Hsp]; · iexact Hsp
    isplitl [Hat]; · iexact Hat
    isplitl [Hcb]; · iexact Hcb
    isplitl [Hbt]; · iexact Hbt
    isplitl [Hpt]; · iexact Hpt
    isplitl [H3 H4 H5]
    · isplitl [H3]; · iapply (split_O c); iexact H3
      isplitl [H4]; · iapply (split_M c); iexact H4
      iapply (split_L c); iexact H5
    iexact Hro
  iexact Hp

theorem hout (c : Dev nD) (W : Valuation τ sig (Elt F)) : (dat m c).Φ (Fin.last cfg0.N)
    ⊢ iprop(Pipeline.scopedRest spec0 c ∗ (∃ r, prngReg c r) ∗ StableHlo.held (c.tc : Thread nD τ) ∅ W ∗ Pipeline.ownSems0 osem c ∗ Yk c) := by
  rw [show (dat m c).Φ (Fin.last cfg0.N) = iprop(inv (ownT m) (Fin.last cfg0.N).val c ∗ ∃ r, prngReg c r) from rfl, scopedRest0_eq]
  unfold inv fin zeros Pipeline.ownSems0 Yk
  rw [if_pos (show (Fin.last cfg0.N).val = 16 from N_0), slabs_eq, split15 (fun sm => (semVal ((c : Thread nD τ), sm) 0 : sProp 𝕄))]
  iintro ⟨⟨⟨%X, H0, H1, H2⟩, ⟨H3, H4, H5⟩, Hs, Hr, Hb⟩, Hp⟩
  isplitl [H0 H1 H2 H3 H4 H5]
  · isplitl [H0]
    · ihave H0 := (Entails.of_eq (owns_any c cc0_scratch0 (X 0))) $$ H0
      icases H0 with ⟨%f, -, H0⟩; iexists f; iexact H0
    isplitl [H1]
    · ihave H1 := (Entails.of_eq (owns_any c cc0_scratch1 (X 1))) $$ H1
      icases H1 with ⟨%f, -, H1⟩; iexists f; iexact H1
    isplitl [H2]
    · ihave H2 := (Entails.of_eq (owns_any c cc0_scratch2 (X 2))) $$ H2
      icases H2 with ⟨%f, -, H2⟩; iexists f; iexact H2
    isplitl [H3]; · iapply (join_O c); iexact H3
    isplitl [H4]; · iapply (join_M c); iexact H4
    iapply (join_L c); iexact H5
  isplitl [Hp]; · iexact Hp
  isplitr
  · unfold StableHlo.held; rw [BI.bigSep_empty]; iempintro
  isplitl [Hs Hr]
  · isplitl [Hs]; · iexact Hs
    iexact Hr
  iexact Hb

/-! ## The region's record -/

abbrev pdats : (p : Fin 1) → (c : Dev nD) → Dat τ (Elt F) Unit ℕ UU ℕ (Pipeline.pin (pcfgs (F := F)) adm p) c := fun _ c => dat m c

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_cut (c : Dev nD) (t : ℕ) (g : GSem nD τ sig) (u : Unit) (h : 0 < owedAt t c g u) : u ∈ L g ∧ 0 < lv g u := by
  have hbar : ∀ d : Dev nD, u ∈ L (barCell d) ∧ 0 < lv (barCell d) u := fun d =>
    ⟨by rw [L_tc]; exact Finset.mem_singleton_self _, Nat.one_pos⟩
  have hrem : 0 < rem c 12 g u → u ∈ L g ∧ 0 < lv g u := fun h => by
    obtain ⟨n, -, rfl⟩ := rem_pos c 12 (le_refl _) g u h
    refine ⟨by rw [L_tc]; exact Finset.mem_singleton_self _, ?_⟩
    fin_cases n <;> exact Nat.succ_pos _
  unfold owedAt at h
  split at h
  · unfold O₀ at h
    simp only [Pi.add_apply, Finsupp.add_apply] at h
    rcases Nat.add_pos_iff_pos_or_pos.mp h with h | h
    · rcases Nat.add_pos_iff_pos_or_pos.mp h with h | h
      · rcases Nat.add_pos_iff_pos_or_pos.mp h with h | h
        · rcases Nat.add_pos_iff_pos_or_pos.mp h with h | h
          · exact hrem h
          · rw [tally_pos h]; exact hbar _
        · rw [tally_pos h]; exact hbar _
      · rw [tally_pos h]; exact hbar _
    · rw [tally_pos h]; exact hbar _
  · split at h
    · exact absurd h (Nat.lt_irrefl 0)
    · exact hrem h

/-- The unscoped buffers after the region: the output's array at what its window's write-back leaves. -/
abbrev W2 (c : Dev nD) : Valuation τ sig (Elt F) := Function.update (V1 m c) main_v22 ((dat m c).arrAt 3 cfg0.N)

theorem W2_of (c : Dev nD) (r : Ref sig .tc) (h : r ≠ main_v22) : W2 m c r = V1 m c r :=
  Function.update_of_ne (StableHlo.devRef_ne_of_ne h : (Proc.devRef .tc r : DevRef τ sig) ≠ Proc.devRef .tc main_v22) _ _

abbrev arrs : Finset (DevRef τ sig) := Pipeline.arrRefs (τ := τ) (pcfgs (F := F) 0).spec

theorem v22_mem : (Proc.devRef .tc main_v22 : DevRef τ sig) ∈ arrs (F := F) :=
  Finset.mem_map_of_mem _ (Finset.mem_image.mpr ⟨3, Finset.mem_univ _, rfl⟩)

set_option backward.isDefEq.respectTransparency.types false in
def region : RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (Pipeline.ucRefs τ sig \ arrs (F := F)) (Finset.empty_subset _) kit rfl (fun c => (body_obligation m c).loose)
    (fun _ => 0) O₀ (fun c => (show owedAt 0 c = O₀ c from if_pos rfl).trans (zero_add _).symm)
    (fun c => (show owedAt (Fin.last cfg0.N).val c = 0 from by
      rw [show (Fin.last cfg0.N).val = 16 from N_0]; rfl)) (fun _ => rfl) (share_eq m)
    (V1 m) (W2 m) (fun c b hb => by
      rw [Finset.sdiff_empty] at hb
      exact Function.update_of_ne (fun e => (Finset.mem_sdiff.mp hb).2 (by rw [e]; exact v22_mem)) _ _)
    (Tk m) Yk (Xk m) Yk (hopen m) (fun c => hin m c (V1 m c)) (fun c => hout m c (W2 m c))
    (fun c => by iintro H; imodintro; iexact H)
    (fun _ => 0)
    ⟨fun c w s => by rw [L_tc]; exact Finset.mem_singleton_self _,
      fun c w s => le_of_eq (by
        revert s; revert w
        show ∀ (w : Fin 4) (s : Fin (win0 w).nbuf), lv ((c : Thread nD τ), .dma ((win0 w).sem s)) () = 0
        intro w s
        show (if ((win0 w).sem s).val < 10 then 0 else 2 + (((win0 w).sem s).val - 10) / 3) = 0
        exact if_pos ((by decide : ∀ (w : Fin 4) (s : Fin (win0 w).nbuf), ((win0 w).sem s).val < 10) w s)),
      fun c t g u h => owed_cut c t.val g u h⟩
    (fun _ => iprop(emp))
    (fun c w => rfl)
    (fun c w => by
      match w with
      | ⟨0, _⟩ => exact ((dat m c).arrAt_in 0 rfl _).trans (W2_of m c main_arg0 (by decide)).symm
      | ⟨1, _⟩ => exact ((dat m c).arrAt_in 1 rfl _).trans (W2_of m c main_v20 (by decide)).symm
      | ⟨2, _⟩ => exact ((dat m c).arrAt_in 2 rfl _).trans (W2_of m c main_v21 (by decide)).symm
      | ⟨3, _⟩ => exact (Function.update_self (Proc.devRef .tc main_v22 : DevRef τ sig) ((dat m c).arrAt 3 cfg0.N) (V1 m c)).symm)

end Cert.KernelIdeal.Exchange

end
-- ==== Proof.Run.lean ====
/- The launch: the tokens dealt to the partners, the credit counted, and the run of the whole program. -/
module

public import proofs.«01_k».proof.Proof.Entry

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

/-- The cells a stage's seven tokens stand on: the barrier, the three send cells, the stage's three receive cells. -/
abbrev tsem (x : Fin 4 × Fin 7) : SemLoc sig := match x.2 with
  | 0 => .reg barS | 1 => .dma (sendQ 0) | 2 => .dma (sendQ 1) | 3 => .dma (sendQ 2)
  | 4 => .dma (recvQ x.1 0) | 5 => .dma (recvQ x.1 1) | 6 => .dma (recvQ x.1 2)
abbrev trd (x : Fin 4 × Fin 7) : ℕ := match x.2 with
  | 0 => 0 | 1 => x.1.val | 2 => x.1.val | 3 => x.1.val | 4 => 0 | 5 => 0 | 6 => 0
abbrev tdu (x : Fin 4 × Fin 7) : Fin 4 := match x.2 with
  | 0 => x.1 | 1 => 0 | 2 => 0 | 3 => 0 | 4 => 0 | 5 => 0 | 6 => 0
theorem tk_inj : Function.Injective (fun x : Fin 4 × Fin 7 => (tsem x, trd x, tdu x)) := by decide
def talkToks : Finset (GSem nD τ sig × ℕ × Fin 4) :=
  Finset.univ.map ⟨fun ck : Dev nD × (Fin 4 × Fin 7) => (((ck.1 : Thread nD τ), tsem ck.2), trd ck.2, tdu ck.2), fun _ _ h =>
    Prod.ext (congrArg (fun t : GSem nD τ sig × ℕ × Fin 4 => t.1.1.1) h)
      (tk_inj (Prod.ext (congrArg (fun t : GSem nD τ sig × ℕ × Fin 4 => t.1.2) h) (congrArg (fun t : GSem nD τ sig × ℕ × Fin 4 => t.2) h)))⟩

theorem bar_apart : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The launch element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- All of the protocol's launch element, kept on device `0` until it is dealt. -/
def parked : sProp 𝕄 := BI.own (ER (launchOf barCells scCells talkToks))
def G (c : Dev nD) : sProp 𝕄 := if c = 0 then parked else iprop(emp)
theorem G_eq : bigSep Finset.univ (G (F := F)) = parked := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- Stage `s`'s barrier token, send tokens and receive tokens of device `c`. -/
def tokB (s : Fin 4) (c : Dev nD) : sProp 𝕄 := dutyTok ER (barCell c) 0 s
def tokS (s : Fin 4) (c : Dev nD) : sProp 𝕄 := bigSep Finset.univ fun i : Fin 3 => dutyTok ER (sendCell i c) s.val 0
def tokR (s : Fin 4) (c : Dev nD) : sProp 𝕄 := bigSep Finset.univ fun i : Fin 3 => dutyTok ER (recvCell s i c) 0 0

theorem chain7 (Φ : Fin 7 → sProp 𝕄) : bigSep Finset.univ Φ = iprop(Φ 0 ∗ (Φ 1 ∗ Φ 2 ∗ Φ 3) ∗ (Φ 4 ∗ Φ 5 ∗ Φ 6)) := by
  rw [bigSep_univ_eq_bigSepL [(0 : Fin 7), 1, 2, 3, 4, 5, 6] (by decide) (by decide) Φ]
  refine BI.equiv_iff.mp ⟨?_, ?_⟩
  · show iprop(Φ 0 ∗ Φ 1 ∗ Φ 2 ∗ Φ 3 ∗ Φ 4 ∗ Φ 5 ∗ Φ 6) ⊢ _
    iintro ⟨H0, H1, H2, H3, H4⟩
    isplitl [H0]; · iexact H0
    isplitl [H1 H2 H3]
    · isplitl [H1]; · iexact H1
      isplitl [H2] <;> iassumption
    iexact H4
  · show _ ⊢ iprop(Φ 0 ∗ Φ 1 ∗ Φ 2 ∗ Φ 3 ∗ Φ 4 ∗ Φ 5 ∗ Φ 6)
    iintro ⟨H0, ⟨H1, H2, H3⟩, H4⟩
    isplitl [H0]; · iexact H0
    isplitl [H1]; · iexact H1
    isplitl [H2]; · iexact H2
    isplitl [H3]; · iexact H3
    iexact H4

theorem toks_eq : bigSep talkToks (fun x => (dutyTok ER x.1 x.2.1 x.2.2 : sProp 𝕄))
    = bigSep Finset.univ fun s : Fin 4 => bigSep Finset.univ fun c : Dev nD => iprop(tokB s c ∗ tokS s c ∗ tokR s c) := by
  unfold talkToks; rw [BI.bigSep_map, BI.bigSep_univ_prod, BI.bigSep_univ_comm (fun (s : Fin 4) (c : Dev nD) => (iprop(tokB s c ∗ tokS s c ∗ tokR s c) : sProp 𝕄))]
  refine bigSep_congr fun c _ => ?_
  rw [BI.bigSep_univ_prod]
  refine bigSep_congr fun s _ => ?_
  rw [chain7]; unfold tokB tokS tokR; rw [bigSep_comps, bigSep_comps]; rfl

abbrev prE (s : Fin 4) : Dev nD ≃ Dev nD := ⟨pr s, pr s, pr_pr s, pr_pr s⟩

theorem swap_stage (s : Fin 4) : (bigSep Finset.univ fun c : Dev nD => iprop(tokB s c ∗ tokS s c ∗ tokR s c) : sProp 𝕄)
    = bigSep Finset.univ fun c : Dev nD => iprop(tokB s (pr s c) ∗ tokS s c ∗ tokR s (pr s c)) := by
  rw [bigSep_sep', bigSep_sep', bigSep_sep', bigSep_sep', BI.bigSep_univ_equiv (prE s) (tokB (F := F) s), BI.bigSep_univ_equiv (prE s) (tokR (F := F) s)]
  rfl

/-- Every device with the tokens of what it pays. -/
theorem toks_dealt : bigSep talkToks (fun x => (dutyTok ER x.1 x.2.1 x.2.2 : sProp 𝕄))
    = bigSep Finset.univ fun c : Dev nD => iprop(barToks c ∗ payToks c) := by
  rw [toks_eq, bigSep_congr (s := Finset.univ) fun (s : Fin 4) _ => swap_stage (F := F) s, BI.bigSep_univ_comm]
  refine bigSep_congr fun c _ => ?_
  show bigSep Finset.univ (fun s : Fin 4 => (iprop(tokB s (pr s c) ∗ tokS s c ∗ tokR s (pr s c)) : sProp 𝕄)) = _
  rw [bigSep_sep']
  have e : (payToks c : sProp 𝕄) = bigSep Finset.univ fun s : Fin 4 => iprop(tokS s c ∗ tokR s (pr s c)) := by
    unfold payToks tokS tokR
    exact bigSep_congr fun s _ => bigSep_sep' _ _ _
  rw [e]; rfl

/-! ## The credit -/

theorem bar_ne_dma (c d : Dev nD) (q : Fin 22) : barCell c ≠ (((d : Thread nD τ), .dma q) : GSem nD τ sig) := fun h => by
  have h := congrArg Prod.snd h; cases h
theorem dev_of {c d : Dev nD} {x y : SemLoc sig} (h : (((c : Thread nD τ), x) : GSem nD τ sig) = ((d : Thread nD τ), y)) : c = d :=
  congrArg (fun g : GSem nD τ sig => g.1.1) h

theorem due_at (d c : Dev nD) (n : Fin 12) (s : Fin 4) (i : Fin 3) :
    due d n (recvCell s i c) () = if n.val = 3 * s.val + i.val ∧ d = pr s c then N i else 0 := by
  have hs := s.isLt; have hi := i.isLt
  rw [tallyAt_apply]
  by_cases hn : n.val = 3 * s.val + i.val
  · have e1 : (⟨n.val / 3, by have := n.isLt; omega⟩ : Fin 4) = s := Fin.ext (by show n.val / 3 = s.val; omega)
    have e2 : (⟨n.val % 3, Nat.mod_lt _ (by decide)⟩ : Fin 3) = i := Fin.ext (by show n.val % 3 = i.val; omega)
    have e3 : dueCell d n = recvCell s i (pr s d) := by unfold dueCell; rw [e1, e2]
    rw [e3, e2]
    by_cases hd : d = pr s c
    · subst hd; rw [pr_pr, if_pos ⟨rfl, rfl⟩, if_pos ⟨hn, rfl⟩]
    · rw [if_neg (fun h => hd (by rw [dev_of h.1, pr_pr])), if_neg (fun h => hd h.2)]
  · rw [if_neg, if_neg (fun h => hn h.1)]
    rintro ⟨h, -⟩
    have h := congrArg (fun g : GSem nD τ sig => match g.2 with | .reg _ => 0 | .dma q => q.val) h
    have h : 10 + (3 * s.val + i.val) = 10 + (3 * (n.val / 3) + n.val % 3) := h
    omega

theorem rem_at (d c : Dev nD) (s : Fin 4) (i : Fin 3) : ∀ j : ℕ, j ≤ 12 →
    rem d j (recvCell s i c) () = if 12 - j ≤ 3 * s.val + i.val ∧ d = pr s c then N i else 0
  | 0, _ => by
    have hs := s.isLt; have hi := i.isLt
    rw [if_neg (by omega)]; rfl
  | j + 1, hj => by
    have hs := s.isLt; have hi := i.isLt
    have e : rem d (j + 1) (recvCell s i c) () = rem d j (recvCell s i c) () + due d ⟨11 - j, by omega⟩ (recvCell s i c) () := by
      rw [rem, dif_pos (by omega : 11 - j < 12)]; rfl
    rw [e, rem_at d c s i j (by omega), due_at]
    by_cases hd : d = pr s c
    · by_cases h1 : 12 - j ≤ 3 * s.val + i.val
      · rw [if_pos ⟨h1, hd⟩, if_neg (fun h => by have h : 11 - j = 3 * s.val + i.val := h.1; omega), if_pos ⟨by omega, hd⟩, Nat.add_zero]
      · by_cases h2 : 11 - j = 3 * s.val + i.val
        · rw [if_neg (fun h => h1 h.1), if_pos ⟨h2, hd⟩, if_pos ⟨by omega, hd⟩, Nat.zero_add]
        · rw [if_neg (fun h => h1 h.1), if_neg (fun h => h2 h.1), if_neg (fun h => by have := h.1; omega)]
    · rw [if_neg (fun h => hd h.2), if_neg (fun h => hd h.2), if_neg (fun h => hd h.2)]

theorem owed_recv (d c : Dev nD) (s : Fin 4) (i : Fin 3) : O₀ d (recvCell s i c) () = if d = pr s c then N i else 0 := by
  unfold O₀
  simp only [Pi.add_apply, Finsupp.add_apply]
  rw [tallyAt_ne_cell (bar_ne_dma _ _ _).symm, tallyAt_ne_cell (bar_ne_dma _ _ _).symm, tallyAt_ne_cell (bar_ne_dma _ _ _).symm,
    tallyAt_ne_cell (bar_ne_dma _ _ _).symm, rem_at d c s i 12 (le_refl _)]
  simp only [Finsupp.zero_apply, Nat.add_zero, Nat.sub_self, Nat.zero_le, true_and]

theorem bar_at (s : Fin 4) (d c : Dev nD) : (tallyAt (barCell (pr s d)) () 1 : CellTallies nD τ sig Unit) (barCell c) () = if d = pr s c then 1 else 0 := by
  rw [tallyAt_apply]
  by_cases hd : d = pr s c
  · subst hd; rw [pr_pr, if_pos ⟨rfl, rfl⟩, if_pos rfl]
  · rw [if_neg (fun h => hd (by rw [dev_of h.1, pr_pr])), if_neg hd]

theorem owed_bar (d c : Dev nD) : O₀ d (barCell c) ()
    = (if d = pr 3 c then 1 else 0) + (if d = pr 2 c then 1 else 0) + (if d = pr 1 c then 1 else 0) + (if d = pr 0 c then 1 else 0) := by
  have h0 : rem d 12 (barCell c) () = 0 := by
    by_contra hne
    obtain ⟨n, -, h⟩ := rem_pos d 12 (le_refl _) (barCell c) () (Nat.pos_of_ne_zero hne)
    exact bar_ne_dma _ _ _ h
  unfold O₀
  simp only [Pi.add_apply, Finsupp.add_apply]
  rw [h0, bar_at, bar_at, bar_at, bar_at, Nat.zero_add]

theorem launch_bar (c : Dev nD) :
    tallyOn (barCell c) (launchCredit (Pipeline.owing O₀) 0 (barCell c)) = (tallyAt (barCell c) () 4 : CellTallies nD τ sig Unit) := by
  have one (x : Dev nD) : (∑ d : Dev nD, if d = x then 1 else 0) = 1 := by
    rw [Finset.sum_ite_eq' Finset.univ x fun _ => 1, if_pos (Finset.mem_univ _)]
  unfold tallyAt; refine congrArg _ (Finsupp.ext fun u => ?_); cases u
  rw [Pipeline.launchCredit_owing, Finsupp.single_eq_same, Finset.sum_congr rfl fun d _ => owed_bar d c,
    Finset.sum_add_distrib, Finset.sum_add_distrib, Finset.sum_add_distrib, one, one, one, one]

theorem launch_recv (c : Dev nD) (s : Fin 4) (i : Fin 3) :
    tallyOn (recvCell s i c) (launchCredit (Pipeline.owing O₀) 0 (recvCell s i c)) = (tallyAt (recvCell s i c) () (N i) : CellTallies nD τ sig Unit) := by
  unfold tallyAt; refine congrArg _ (Finsupp.ext fun u => ?_); cases u
  rw [Pipeline.launchCredit_owing, Finsupp.single_eq_same, Finset.sum_congr rfl fun d _ => owed_recv d c s i, Finset.sum_ite_eq' Finset.univ (pr s c) fun _ => N i,
    if_pos (Finset.mem_univ _)]

def recvEmb : Fin 4 × Fin 3 ↪ SemLoc sig := ⟨fun x => .dma (recvQ x.1 x.2), by decide⟩

theorem creds (c : Dev nD) : (Pipeline.launchCred O₀ c : sProp 𝕄) ⊢ credit c := by
  unfold Pipeline.launchCred credit
  rw [bigSep_univ_at _ (SemLoc.reg barS), launch_bar]
  refine sep_mono_right ?_
  have e : (bigSep Finset.univ fun s : Fin 4 => bigSep Finset.univ fun i : Fin 3 => cred (tallyAt (recvCell s i c) () (N i)) : sProp 𝕄)
      = bigSep (Finset.univ.map recvEmb) fun sm => cred (tallyOn ((c : Thread nD τ), sm) (launchCredit (Pipeline.owing O₀) 0 ((c : Thread nD τ), sm))) := by
    rw [BI.bigSep_map, BI.bigSep_univ_prod]
    exact bigSep_congr fun s _ => bigSep_congr fun i _ => congrArg cred (launch_recv c s i).symm
  rw [e]
  refine BI.bigSep_subset fun sm h => ?_
  obtain ⟨x, -, rfl⟩ := Finset.mem_map.mp h
  exact Finset.mem_erase.mpr ⟨(fun h => by cases h), Finset.mem_univ _⟩

/-! ## The first thread state -/

def E (k : Fin 2) (c : Dev nD) : sProp 𝕄 :=
  if k = 0 then iprop(Tk m c ∗ (∃ r, prngReg c r) ∗ ∃ W, owes (c : Thread nD τ) (O₀ c) W)
  else iprop(Yk c ∗ ∃ W, owes (c : Thread nD τ) (0 : CellTallies nD τ sig Unit) W)

/-- What of the launch's holdings is not the protocol's. -/
def bundle (c : Dev nD) : sProp 𝕄 := iprop(credit c ∗ owes (c : Thread nD τ) (O₀ c) ∅ ∗ ∃ r, prngReg c r)

theorem E_intro (κ : GSem nD τ sig → ℕ) (c : Dev nD) : iprop(records (ownT m) κ ∗ (linear c ∗ bundle c)) ⊢ E m 0 c := by
  unfold bundle E Tk
  rw [if_pos rfl]
  iintro ⟨#HR, Hl, Hc, HO, Hp⟩
  isplitl [Hl Hc]
  · iexists κ
    isplitr; · iexact HR
    isplitl [Hl] <;> iassumption
  isplitl [Hp]; · iexact Hp
  iexists ∅; iexact HO

theorem unscoped_eq : ∀ sm : SemLoc sig, sm.isScoped .tc = false → sm = .reg barS := by decide
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem deal : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop(bundle c ∗ (semVal (barCell c) 0 ∗ G c)) : sProp 𝕄) := by
    rw [unscopedSems0_eq]
    unfold bundle
    iintro ⟨Hus, HO, Hcr, Hp, HG⟩
    isplitl [Hcr HO Hp]
    · isplitl [Hcr]; · iapply (creds (F := F) c); iexact Hcr
      isplitl [HO]; · iexact HO
      iexists (ρ c); iexact Hp
    isplitl [Hus] <;> iassumption
  have hall : (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ fun c : Dev nD => bundle c) ∗ (bigSep barCells fun g => semVal g 0) ∗ parked) : sProp 𝕄) := by
    have e : (iprop((bigSep Finset.univ fun c : Dev nD => bundle c) ∗ (bigSep barCells fun g => semVal g 0) ∗ parked) : sProp 𝕄)
        = bigSep Finset.univ fun c : Dev nD => iprop(bundle c ∗ (semVal (barCell c) 0 ∗ G c)) := by
      rw [bigSep_sep', bigSep_sep', G_eq, BI.bigSep_map]; rfl
    rw [e]
    exact bigSep_mono fun c _ => hcore c
  have hat : bigSep barCells (fun g => (atPos ER g 0 ∅ 0 : sProp 𝕄)) = bigSep Finset.univ (fun c : Dev nD => (atPos ER (barCell c) 0 ∅ 0 : sProp 𝕄)) := BI.bigSep_map barEmb
  have hopen : bigSep scCells (fun g => (openTok ER g : sProp 𝕄))
      = bigSep Finset.univ fun c : Dev nD => bigSep Finset.univ fun k : Fin 15 => openTok ER ((c : Thread nD τ), osem k) := by
    rw [BI.bigSep_map, BI.bigSep_univ_prod]; rfl
  have hlin : (iprop(bigSep barCells (fun g => (atPos ER g 0 ∅ 0 : sProp 𝕄)) ∗ bigSep scCells (fun g => (openTok ER g : sProp 𝕄))
      ∗ bigSep talkToks (fun x => (dutyTok ER x.1 x.2.1 x.2.2 : sProp 𝕄))) : sProp 𝕄) = bigSep Finset.univ fun c : Dev nD => linear c := by
    unfold linear
    rw [hat, hopen, toks_dealt, ← bigSep_sep', ← bigSep_sep']
  iintro ⟨H, -⟩
  ihave H' := hall $$ H
  icases H' with ⟨HB, Hv, Hu⟩
  unfold parked
  imod (Rounds.fund_launch ER (sched (ownT m)) bar_apart (fun g _ h => h) talkToks) $$ [Hv Hu] with ⟨%κ, -, #Hinv, #Hr, Hat, Hopen, Htok⟩
  · isplitl [Hv] <;> iassumption
  imodintro
  iapply (bigSep_with_persistent (R := records (ownT m) κ) (Φ := fun c => iprop(linear c ∗ bundle c)) fun c _ => E_intro m κ c)
  isplitr
  · unfold records
    isplitr; · iexact Hinv
    iexact Hr
  iapply (show iprop((bigSep Finset.univ fun c : Dev nD => linear c) ∗ (bigSep Finset.univ fun c : Dev nD => bundle c))
    ⊢ (bigSep Finset.univ fun c : Dev nD => iprop(linear c ∗ bundle c) : sProp 𝕄) from Entails.of_eq (bigSep_sep' _ _ _).symm)
  isplitr [HB]
  · iapply (Entails.of_eq hlin)
    isplitl [Hat]; · iexact Hat
    isplitl [Hopen] <;> iassumption
  iexact HB

/-! ## The run -/

theorem arrs_sub : arrs (F := F) ⊆ Pipeline.ucRefs τ sig := Pipeline.arrRefs_sub_ucRefs _ ((by decide : ∀ w : Fin 4, (Pipeline.arrRef spec0 w).isScoped = false))

theorem region_pre (c : Dev nD) : iprop(StableHlo.held (c : Thread nD τ) (Pipeline.ucRefs τ sig) (V1 m c) ∗ E m 0 c) ⊢ (region m).pre c := by
  show _ ⊢ iprop(StableHlo.held (c.tc : Thread nD τ) (arrs (F := F)) (V1 m c) ∗ (∃ r, prngReg c r)
    ∗ (StableHlo.held (c.tc : Thread nD τ) (Pipeline.ucRefs τ sig \ arrs (F := F)) (V1 m c) ∗ emp) ∗ Tk m c ∗ ∃ Wd, owes (c : Thread nD τ) (0 + O₀ c) Wd)
  rw [StableHlo.held_sub_split (c := (c : Thread nD τ)) (arrs_sub (F := F)) (V1 m c), zero_add]
  unfold E; rw [if_pos rfl]
  iintro ⟨⟨Ha, Hs⟩, HT, Hp, HO⟩
  isplitl [Ha]; · iexact Ha
  isplitl [Hp]; · iexact Hp
  isplitl [Hs]
  · isplitl [Hs]; · iexact Hs
    iempintro
  isplitl [HT] <;> iassumption

theorem region_post (c : Dev nD) : (region m).post c ⊢ iprop(StableHlo.held (c : Thread nD τ) (Pipeline.ucRefs τ sig) (W2 m c) ∗ E m 1 c) := by
  show iprop(StableHlo.held (c.tc : Thread nD τ) (arrs (F := F)) (W2 m c) ∗ (∃ r, prngReg c r)
    ∗ (StableHlo.held (c.tc : Thread nD τ) (Pipeline.ucRefs τ sig \ arrs (F := F)) (W2 m c) ∗ emp) ∗ Yk c ∗ ∃ Wd, owes (c : Thread nD τ) (0 : CellTallies nD τ sig Unit) Wd) ⊢ _
  rw [StableHlo.held_sub_split (c := (c : Thread nD τ)) (arrs_sub (F := F)) (W2 m c)]
  unfold E; rw [if_neg (by decide : ¬ (1 : Fin 2) = 0)]
  iintro ⟨Ha, -, ⟨Hs, -⟩, HY, HO⟩
  isplitl [Ha Hs]; · isplitl [Ha] <;> iassumption
  isplitl [HY] <;> iassumption

theorem W2_arg0 (c : Dev nD) : W2 m c main_arg0 = m ((c : Thread nD τ).loc main_arg0) :=
  (W2_of m c main_arg0 (by decide)).trans ((V1_of m c main_arg0 (by decide)).trans rfl)
theorem W2_arg1 (c : Dev nD) : W2 m c main_arg1 = m ((c : Thread nD τ).loc main_arg1) :=
  (W2_of m c main_arg1 (by decide)).trans ((V1_of m c main_arg1 (by decide)).trans rfl)
theorem W2_arg2 (c : Dev nD) : W2 m c main_arg2 = m ((c : Thread nD τ).loc main_arg2) :=
  (W2_of m c main_arg2 (by decide)).trans ((V1_of m c main_arg2 (by decide)).trans rfl)

/-- The window's block is the whole output array, so the last point's write-back leaves the array at `outV`. -/
theorem arr3 (c : Dev nD) : (dat m c).arrAt 3 cfg0.N = outV m c := by
  refine Dat.arrAt_eq_of_cover (dat m c) 3 (outV m c) (fun t ht => ?_) (fun i => ⟨t0_15, (flush0_3 t0_15).mpr rfl, ?_⟩)
  · have h15 : t.val = 15 := by have := (flush0_3 t).mp ht; have := lt16 t; omega
    obtain rfl : t = t0_15 := Fin.ext h15
    have hz : (fun a => win0_3.index t0_15 a * main_v22.ty.shape.size a) = fun _ => 0 := funext fun a => by fin_cases a <;> decide
    exact (Memref.read_access_unit_zero (Elt F) main_v22 hz (fun a => by rw [congrFun hz a]; simp) (outV m c)).symm
  · show i ∈ ((View.whole main_v22).slice (win0_3.rect t0_15)).set
    rw [View.set_slice_whole, Rect.mem_set_unit]
    intro a
    have hz : win0_3.index t0_15 a * win0_3.size a = 0 := by revert a; decide +kernel
    have hx : win0_3.xsize (grid0.coords t0_15) a = main_v22.ty.shape.size a := by revert a; decide +kernel
    show win0_3.index t0_15 a * win0_3.size a ≤ (i a : ℕ) ∧ (i a : ℕ) < win0_3.index t0_15 a * win0_3.size a + win0_3.xsize (grid0.coords t0_15) a
    rw [hz, hx, Nat.zero_add]
    exact ⟨Nat.zero_le _, (i a).isLt⟩

theorem W2_out (c : Dev nD) : W2 m c main_v22 = outV m c :=
  (Function.update_self (Proc.devRef .tc main_v22 : DevRef τ sig) _ _).trans (arr3 m c)

set_option backward.isDefEq.respectTransparency.types false in
/-- From any memory with zero counters, the program on the sixteen devices terminates; every final state has the arguments unchanged,
    the result at `outV`, and every counter at zero. -/
theorem run_main : θ_run defs (onTc (τ := τ) (main (F := F))) ⟨m, fun _ => 0, ρ⟩ (fun r => (∀ c : Dev nD,
      r.2.mem ((c : Thread nD τ).loc main_v22) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (region m))
    (fun c Q => by
      rewrite [main_chain c, Seg.run_eq_chain,
        show (segs m 𝒱₀ L lv (E m) () (pdats m) (region m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀
    (by
      rw [G_eq]; unfold u₀ parked
      iintro Hu
      ihave H := (ownU_pair _ _) $$ Hu
      icases H with ⟨HP, HX⟩
      imodintro
      isplitl [HP]; · iexact HP
      iexact HX)
    (fun c => iprop(StableHlo.held (c : Thread nD τ) (Pipeline.ucRefs τ sig) (V0 m c) ∗ E m 0 c))
    (fun c => iprop(StableHlo.held (c : Thread nD τ) (Pipeline.ucRefs τ sig) (W2 m c) ∗ Yk c))
    (fun c => ⟨.rfl, region_pre m c, (region_post m c).trans (by
      unfold E; rw [if_neg (by decide : ¬ (1 : Fin 2) = 0)]
      show (_ : sProp 𝕄) ⊢ _
      iintro ⟨Hh, HY, HO⟩
      isplitl [Hh HY]; · isplitl [Hh] <;> iassumption
      iexact HO)⟩)
    ?_
    (fun c s => (s.mem ((c : Thread nD τ).loc main_v22) = outV m c
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)) ∧ s.sem (barCell c) = 0)
    (fun c s' => ?_)
    (fun s h hs => ⟨fun c => (h c).1, sem_eq_zero hs fun c sm hsm => by
      obtain rfl := unscoped_eq sm hsm
      exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (deal m ρ) $$ [Hr Hla] with HE
    · isplitl [Hr]; · iexact Hr
      iexact Hla
    imodintro
    rw [bigSep_sep']
    isplitl [Hh]; · iexact Hh
    iexact HE
  · unfold StableHlo.held Yk
    iintro ⟨⟨Hh, Hb⟩, HSI⟩
    icombine HSI Hb gives %hb
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      exact ⟨⟨(h (Proc.devRef .tc main_v22) (Finset.mem_filter.mpr ⟨StableHlo.devRef_mem_tcRefs main_v22, by decide⟩)).trans (W2_out m c),
        (h (Proc.devRef .tc main_arg0) (Finset.mem_filter.mpr ⟨StableHlo.devRef_mem_tcRefs main_arg0, by decide⟩)).trans (W2_arg0 m c),
        (h (Proc.devRef .tc main_arg1) (Finset.mem_filter.mpr ⟨StableHlo.devRef_mem_tcRefs main_arg1, by decide⟩)).trans (W2_arg1 m c),
        (h (Proc.devRef .tc main_arg2) (Finset.mem_filter.mpr ⟨StableHlo.devRef_mem_tcRefs main_arg2, by decide⟩)).trans (W2_arg2 m c)⟩, by simpa using hb⟩
    · iexact HSI

end Cert.KernelIdeal.Exchange

end
-- ==== Proof.Softmax.lean ====
/- The softmax-weighted sum over a set of keys, as a running triple: the greatest score, the sum of the weights relative
   to it, and the weighted sum of the values. Scores are real numbers; values are any extended reals. -/
module

public import Idealize.ShloMosaic.PureOps.Ideal
public import Mathlib.Data.EReal.Operations
public import Mathlib.Data.Finset.Prod

@[expose] public section

noncomputable section

namespace Cert.Softmax

open Idealize.ShloMosaic

variable {κ κ' : Type}

/-- The word of the least extended real. -/
theorem bot_f32 : Ideal.ofBits .f32 0xFF800000#32 = ⊥ := by
  simp [Ideal.ofBits, Ideal.ieee]

/-- A factor that is neither negative nor infinite goes into a sum of extended reals. -/
theorem mul_sum_of_real (c : ℝ) (hc : 0 ≤ c) (T : Finset κ) (f : κ → EReal) :
    (c : EReal) * ∑ k ∈ T, f k = ∑ k ∈ T, (c : EReal) * f k := by
  classical
  induction T using Finset.induction_on with
  | empty => rw [Finset.sum_empty, Finset.sum_empty, mul_zero]
  | insert a T ha ih =>
    rw [Finset.sum_insert ha, Finset.sum_insert ha,
      EReal.left_distrib_of_nonneg_of_ne_top (EReal.coe_nonneg.mpr hc) (EReal.coe_ne_top c), ih]

/-- A sum of real numbers is the same sum of them as extended reals. -/
theorem coe_sum (T : Finset κ) (f : κ → ℝ) : ((∑ k ∈ T, f k : ℝ) : EReal) = ∑ k ∈ T, (f k : EReal) := by
  classical
  induction T using Finset.induction_on with
  | empty => rw [Finset.sum_empty, Finset.sum_empty, EReal.coe_zero]
  | insert a T ha ih => rw [Finset.sum_insert ha, Finset.sum_insert ha, EReal.coe_add, ih]

/-- `M` is the greatest score of the keys in `T`. -/
def Top (s : κ → ℝ) (T : Finset κ) (M : ℝ) : Prop := (∃ k ∈ T, s k = M) ∧ ∀ k ∈ T, s k ≤ M

theorem Top.unique {s : κ → ℝ} {T : Finset κ} {M M' : ℝ} (h : Top s T M) (h' : Top s T M') : M = M' := by
  obtain ⟨⟨k, hk, e⟩, hle⟩ := h
  obtain ⟨⟨k', hk', e'⟩, hle'⟩ := h'
  exact le_antisymm (e ▸ hle' k hk) (e' ▸ hle k' hk')

/-- The fold of the maximum from −∞ over the keys is their greatest score. -/
theorem exists_top (s : κ → ℝ) (T : Finset κ) (hT : T.Nonempty) :
    ∃ M : ℝ, Top s T M ∧ T.fold max (⊥ : EReal) (fun k => (s k : EReal)) = (M : EReal) := by
  obtain ⟨k, hk, hmax⟩ := T.exists_max_image s hT
  refine ⟨s k, ⟨⟨k, hk, rfl⟩, hmax⟩, le_antisymm ?_ ?_⟩
  · exact (Finset.fold_max_le _).mpr ⟨bot_le, fun x hx => EReal.coe_le_coe_iff.mpr (hmax x hx)⟩
  · exact (Finset.le_fold_max _).mpr (Or.inr ⟨k, hk, le_rfl⟩)

/-- The weight of key `k` relative to the score `M`. -/
def wt (s : κ → ℝ) (M : ℝ) (k : κ) : EReal := ((Real.exp (s k - M) : ℝ) : EReal)

/-- The weight as the difference's exponential over the extended reals. -/
theorem exp_sub_coe (a M : ℝ) : Ideal.exp ((a : EReal) - (M : EReal)) = ((Real.exp (a - M) : ℝ) : EReal) := by
  rw [← EReal.coe_sub, Ideal.exp_coe]

/-- Weights relative to `M`, rescaled, are the weights relative to `M'`. -/
theorem rescale (s : κ → ℝ) (M M' : ℝ) (k : κ) :
    ((Real.exp (M - M') : ℝ) : EReal) * wt s M k = wt s M' k := by
  unfold wt
  rw [← EReal.coe_mul, ← Real.exp_add]
  congr 2; ring

/-- `(o, m, l)` is the triple of the keys in `T`. -/
def Holds (s : κ → ℝ) (v : κ → EReal) (T : Finset κ) (o m l : EReal) : Prop :=
  ∃ M : ℝ, Top s T M ∧ m = (M : EReal) ∧ l = ∑ k ∈ T, wt s M k ∧ o = ∑ k ∈ T, wt s M k * v k

/-- The triples of two disjoint sets of keys combine to that of their union. -/
theorem Holds.combine [DecidableEq κ] {s : κ → ℝ} {v : κ → EReal} {T T' : Finset κ} {o m l o' m' l' : EReal}
    (h : Holds s v T o m l) (h' : Holds s v T' o' m' l') (hd : Disjoint T T') :
    Holds s v (T ∪ T') (Ideal.exp (m - max m m') * o + Ideal.exp (m' - max m m') * o') (max m m')
      (Ideal.exp (m - max m m') * l + Ideal.exp (m' - max m m') * l') := by
  obtain ⟨M, ⟨⟨k, hk, e⟩, hle⟩, rfl, rfl, rfl⟩ := h
  obtain ⟨M', ⟨⟨k', hk', e'⟩, hle'⟩, rfl, rfl, rfl⟩ := h'
  have hmax : max (M : EReal) (M' : EReal) = ((max M M' : ℝ) : EReal) := by
    rcases le_total M M' with hM | hM
    · rw [max_eq_right hM, max_eq_right (EReal.coe_le_coe_iff.mpr hM)]
    · rw [max_eq_left hM, max_eq_left (EReal.coe_le_coe_iff.mpr hM)]
  refine ⟨max M M', ⟨?_, ?_⟩, hmax, ?_, ?_⟩
  · rcases le_total M M' with hM | hM
    · exact ⟨k', Finset.mem_union_right _ hk', e'.trans (max_eq_right hM).symm⟩
    · exact ⟨k, Finset.mem_union_left _ hk, e.trans (max_eq_left hM).symm⟩
  · intro x hx
    rcases Finset.mem_union.mp hx with hx | hx
    · exact (hle x hx).trans (le_max_left _ _)
    · exact (hle' x hx).trans (le_max_right _ _)
  · rw [hmax, exp_sub_coe, exp_sub_coe, mul_sum_of_real _ (Real.exp_pos _).le, mul_sum_of_real _ (Real.exp_pos _).le,
      Finset.sum_union hd]
    simp only [rescale]
  · rw [hmax, exp_sub_coe, exp_sub_coe, mul_sum_of_real _ (Real.exp_pos _).le, mul_sum_of_real _ (Real.exp_pos _).le,
      Finset.sum_union hd]
    simp only [← mul_assoc, rescale]

/-- The sum of the weights is a positive real number. -/
theorem sum_wt (s : κ → ℝ) (M : ℝ) (T : Finset κ) (hT : T.Nonempty) :
    ∃ L : ℝ, 0 < L ∧ ∑ k ∈ T, wt s M k = (L : EReal) :=
  ⟨∑ k ∈ T, Real.exp (s k - M), Finset.sum_pos (fun _ _ => Real.exp_pos _) hT, (coe_sum T _).symm⟩

/-- Over all keys, however numbered: the weighted sum over the sum of the weights is the sum of the values weighted by
    the normalised weights. -/
theorem Holds.div [Fintype κ] [Fintype κ'] (e : κ ≃ κ') {s : κ' → ℝ} {v : κ' → EReal} {o m l : EReal} {M : ℝ}
    (h : Holds (fun k => s (e k)) (fun k => v (e k)) Finset.univ o m l) (hM : Top s Finset.univ M) :
    Ideal.div o l = ∑ k, v k * Ideal.div (wt s M k) (∑ k, wt s M k) := by
  obtain ⟨M', hM', -, rfl, rfl⟩ := h
  have hMM : M' = M := by
    refine hM'.unique ⟨?_, fun k _ => hM.2 (e k) (Finset.mem_univ _)⟩
    obtain ⟨k, -, hk⟩ := hM.1
    exact ⟨e.symm k, Finset.mem_univ _, by show s (e (e.symm k)) = M; rw [Equiv.apply_symm_apply]; exact hk⟩
  subst hMM
  have hl : ∑ k : κ, wt (fun k => s (e k)) M' k = ∑ k : κ', wt s M' k := Equiv.sum_comp e (wt s M')
  have ho : ∑ k : κ, wt (fun k => s (e k)) M' k * v (e k) = ∑ k : κ', wt s M' k * v k :=
    Equiv.sum_comp e fun k => wt s M' k * v k
  rw [hl, ho]
  obtain ⟨k, hk, -⟩ := hM.1
  obtain ⟨L, hL, eL⟩ := sum_wt s M' Finset.univ ⟨k, hk⟩
  rw [eL, Ideal.div_coe hL.ne', mul_comm, mul_sum_of_real _ (one_div_pos.mpr hL).le]
  refine Finset.sum_congr rfl fun k _ => ?_
  rw [Ideal.div_coe hL.ne']
  ac_rfl

end Cert.Softmax

end
-- ==== Proof.Block.lean ====
/- One grid point's triple, read at a head: the largest score of the block's keys, the weights relative to it, and
   their sums. The masked matrix of queries leaves, of the sum over all lanes, the lanes of one head. -/
module

public import proofs.«01_k».proof.Proof.Region
public import proofs.«01_k».proof.Proof.Softmax
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.PureOps.Ideal.Laws

@[expose] public section

set_option maxRecDepth 16384

noncomputable section

namespace Cert.KernelIdeal.Exchange

open Idealize.ShloMosaic Idealize.ShloMosaic.ValueIdx Idealize.ShloMosaic.Pipeline
open Cert.KernelIdeal.Gen
open scoped BigOperators

/-- The lane of head `h`'s coordinate `d` among all heads' coordinates laid side by side. -/
def lane (h : Fin 16) (d : Fin 64) : Fin 1024 := ⟨64 * h.val + d.val, by omega⟩

/-- A sum over the lanes is a sum over the heads and each head's coordinates. -/
theorem sum_lane {M : Type} [AddCommMonoid M] (f : Fin 1024 → M) : ∑ n, f n = ∑ h : Fin 16, ∑ d : Fin 64, f (lane h d) := by
  rw [← Fintype.sum_prod_type', ← Equiv.sum_comp (finProdFinEquiv (m := 16) (n := 64)) f]
  refine Finset.sum_congr rfl fun p _ => congrArg f (Fin.ext ?_)
  show p.2.val + 64 * p.1.val = 64 * p.1.val + p.2.val
  omega

/-- The kernel's head mask: one where the two coordinates agree, zero elsewhere. -/
theorem mask_val {n : ℕ} (hn : n ≤ 4096) (a b : Fin n) :
    (FloatOps.sitofp (F := Ideal) .f32 ((IntOp.cmpi .eq (BitVec.ofNat 32 a.val) (BitVec.ofNat 32 b.val)).setWidth 32) : EReal)
      = if a = b then 1 else 0 := by
  show ((((BitVec.ofBool (BitVec.ofNat 32 a.val == BitVec.ofNat 32 b.val)).setWidth 32).toInt : ℝ) : EReal) = _
  by_cases h : a = b
  · subst h
    rw [if_pos rfl, beq_self_eq_true]
    have : ((BitVec.ofBool true).setWidth 32).toInt = 1 := by decide
    rw [this]; norm_num
  · rw [if_neg h]
    have hne : (BitVec.ofNat 32 a.val == BitVec.ofNat 32 b.val) = false := by
      rw [beq_eq_false_iff_ne]
      intro e
      apply h
      have e' := congrArg BitVec.toNat e
      rw [BitVec.toNat_ofNat, BitVec.toNat_ofNat, Nat.mod_eq_of_lt (by have := a.isLt; omega), Nat.mod_eq_of_lt (by have := b.isLt; omega)] at e'
      exact Fin.ext e'
    rw [hne]
    have : ((BitVec.ofBool false).setWidth 32).toInt = 0 := by decide
    rw [this]; norm_num

/-- The kernel's scale, as a bf16 word. -/
theorem eighth_bf16 : Ideal.ofBits .bf16 0x3E00#16 = (((1 / 8 : ℝ)) : EReal) := by
  simp [Ideal.ofBits, Ideal.ieee, -EReal.coe_mul]; norm_num

variable (xq : Vec Ideal S1x1x16x64 .bf16) (xk xv : Vec Ideal S1x128x1024 .bf16)

/-- The masked matrix of scaled queries at a lane of head `h'` and column `h`. -/
theorem pay35_apply (h' h : Fin 16) (d : Fin 64) :
    k0_pay35 xq (ix2 (lane h' d) h : S1024x16.Idx) = xq (ix4 (0 : Fin 1) (0 : Fin 1) h d) * ((1 / 8 : ℝ) : EReal) * (if h' = h then 1 else 0) := by
  unfold k0_pay35
  rw [truncf_apply]
  refine (shapeCast_apply _ _ _ (ix3 h' d h : S16x64x16.Idx) ?_).trans ?_
  · rw [Shape.rowMajor_val_three, Shape.rowMajor_val_two]
    show (h'.val * 64 + d.val) * 16 + h.val = (64 * h'.val + d.val) * 16 + h.val
    ring
  rw [mulf_apply, sitofp_apply, extui_apply]
  congr 1
  · refine (broadcastTo_apply _ _ _ (ix3 (0 : Fin 1) d h : S1x64x16.Idx) (fun a => match a with | ⟨0, _⟩ => rfl | ⟨1, _⟩ => rfl | ⟨2, _⟩ => rfl)).trans ?_
    rw [extf_apply]
    refine (shapeCast_ab_1ab_apply _ _ _ _ _).trans ?_
    refine (transpose_ix2_apply _ _ _ _).trans ?_
    rw [mulf_apply, broadcast_apply]
    congr 1
    · refine (shapeCast_apply _ _ _ (ix4 (0 : Fin 1) (0 : Fin 1) h d : S1x1x16x64.Idx) ?_).trans ?_
      · rw [Shape.rowMajor_val_four, Shape.rowMajor_val_two]
        show ((0 * 1 + 0) * 16 + h.val) * 64 + d.val = h.val * 64 + d.val
        ring
      · rw [shapeCast_self]
    · exact eighth_bf16
  · show FloatOps.sitofp (F := Ideal) .f32 ((IntOp.cmpi .eq (iota .tc S16x64x16 32 [0] _ (ix3 h' d h)) (iota .tc S16x64x16 32 [2] _ (ix3 h' d h))).setWidth 32) = _
    rw [iota_single_apply, iota_single_apply]
    exact mask_val (by norm_num) h' h

/-- The keys of a block. -/
theorem pay36_apply (j : Fin 128) (n : Fin 1024) : k0_pay36 xk (ix2 j n : S128x1024.Idx) = xk (ix3 (0 : Fin 1) j n) := by
  unfold k0_pay36
  rw [shapeCast_self]
  exact shapeCast_1ab_ab_apply _ _ _ _

/-- The score of a block's key `j` at head `h`. -/
def blkScore (h : Fin 16) (j : Fin 128) : EReal := ∑ d : Fin 64, xk (ix3 (0 : Fin 1) j (lane h d)) * (xq (ix4 (0 : Fin 1) (0 : Fin 1) h d) * ((1 / 8 : ℝ) : EReal))

theorem pay37_apply (j : Fin 128) (h : Fin 16) :
    k0_pay37 (k0_pay35 xq) (k0_pay36 xk) acc0 (ix2 j h : S128x16.Idx) = blkScore xq xk h j := by
  unfold k0_pay37
  refine (Ideal.matmul_plain_apply none _ _ _ j h).trans ?_
  rw [show (acc0 (F := Ideal)) (ix2 j h) = 0 from Ideal.ofBits_zero_f32, zero_add, sum_lane]
  rw [Finset.sum_eq_single h]
  · refine Finset.sum_congr rfl fun d _ => ?_
    rw [pay35_apply, pay36_apply, if_pos rfl, mul_one]
  · intro h' _ hne
    refine Finset.sum_eq_zero fun d _ => ?_
    rw [pay35_apply, if_neg hne, mul_zero, mul_zero]
  · exact fun hh => absurd (Finset.mem_univ _) hh

/-- The largest score of a block. -/
def blkTop (h : Fin 16) : EReal := Finset.univ.fold max ⊥ (blkScore xq xk h)

theorem pay38_apply (h : Fin 16) : k0_pay38 (k0_pay35 xq) (k0_pay36 xk) acc0 (ix2 (0 : Fin 1) h : S1x16.Idx) = blkTop xq xk h := by
  unfold k0_pay38
  refine (shapeCast_a_1a_apply _ _ _ _).trans ?_
  refine (Ideal.multiReduction_maximumf_single _ _ _ _ _ _).trans ?_
  unfold blkTop
  rw [show FloatOps.ofBits (F := Ideal) .f32 0xFF800000#32 = ⊥ from Softmax.bot_f32]
  congr 1
  funext j
  refine (congrArg (k0_pay37 (k0_pay35 xq) (k0_pay36 xk) acc0) (?_ : _ = (ix2 j h : S128x16.Idx))).trans (pay37_apply xq xk j h)
  funext a; apply Fin.ext; match a with | ⟨0, _⟩ => rfl | ⟨1, _⟩ => rfl

theorem pay39_apply (j : Fin 128) (h : Fin 16) :
    k0_pay39 (k0_pay35 xq) (k0_pay36 xk) acc0 (ix2 j h : S128x16.Idx) = Ideal.exp (blkScore xq xk h j - blkTop xq xk h) := by
  unfold k0_pay39
  show Ideal.exp (_ - _) = _
  rw [pay37_apply]
  congr 2
  exact (broadcastTo_1b_ab_apply _ _ _ _).trans (pay38_apply xq xk h)

theorem pay41_apply (h : Fin 16) : k0_pay41 (k0_pay35 xq) (k0_pay36 xk) acc0 (ix3 (0 : Fin 1) h (0 : Fin 1) : S1x16x1.Idx) = blkTop xq xk h := by
  unfold k0_pay41
  rw [shapeCast_self]
  refine (shapeCast_ab_1ab_apply _ _ _ _ _).trans ?_
  exact (transpose_ix2_apply _ _ _ _).trans (pay38_apply xq xk h)

theorem pay42_apply (h : Fin 16) : k0_pay42 (k0_pay35 xq) (k0_pay36 xk) acc0 (ix3 (0 : Fin 1) h (0 : Fin 1) : S1x16x1.Idx)
    = ∑ j, Ideal.exp (blkScore xq xk h j - blkTop xq xk h) := by
  unfold k0_pay42
  rw [shapeCast_self]
  refine (shapeCast_ab_1ab_apply _ _ _ _ _).trans ?_
  refine (transpose_ix2_apply _ _ _ _).trans ?_
  refine (shapeCast_a_1a_apply _ _ _ _).trans ?_
  refine (Ideal.multiReduction_add_single _ _ _ _ _ _).trans ?_
  refine Finset.sum_congr rfl fun j _ => ?_
  refine (congrArg (k0_pay39 (k0_pay35 xq) (k0_pay36 xk) acc0) (?_ : _ = (ix2 j h : S128x16.Idx))).trans (pay39_apply xq xk j h)
  funext a; apply Fin.ext; match a with | ⟨0, _⟩ => rfl | ⟨1, _⟩ => rfl

/-- The weighted sums of every head's values, kept where the value's head is the weights' head. -/
def masked : FVec Ideal S16x16x64 .f32 :=
  mulf (shapeCast S16x16x64 (matmul (φ₁ := .bf16) (φ₂ := .bf16) dot_S16x128_S128x1024_S16x1024_1_0_0_1_n_n none
      (transpose S16x128 [1, 0] (truncf .bf16 (k0_pay39 (k0_pay35 xq) (k0_pay36 xk) acc0) bitsLt_bf16_f32) transposes_S128x16_p1_0_S16x128)
      (shapeCast S128x1024 (shapeCast S1x128x1024 xv shapeCasts_S1x128x1024_S1x128x1024) shapeCasts_S1x128x1024_S128x1024)
      (constant S16x1024 .f32 0x00000000#32)) shapeCasts_S16x1024_S16x16x64)
    (broadcastTo S16x16x64 (sitofp .f32 (extui 32 (cmpi .eq (iota .tc S16x16x1 32 [0] iota_S16x16x1_d0_w32) (iota .tc S16x16x1 32 [1] iota_S16x16x1_d1_w32)) natLt_1_32)) broadcasts_S16x16x1_S16x16x64)

theorem masked_apply (h h' : Fin 16) (d : Fin 64) : masked xq xk xv (ix3 h h' d)
    = (∑ j, Ideal.exp (blkScore xq xk h j - blkTop xq xk h) * xv (ix3 (0 : Fin 1) j (lane h' d))) * (if h = h' then 1 else 0) := by
  unfold masked
  rw [mulf_apply]
  congr 1
  · refine (shapeCast_apply _ _ _ (ix2 h (lane h' d) : S16x1024.Idx) ?_).trans ?_
    · rw [Shape.rowMajor_val_three, Shape.rowMajor_val_two]
      show h.val * 1024 + (64 * h'.val + d.val) = (h.val * 16 + h'.val) * 64 + d.val
      ring
    refine (Ideal.matmul_plain_apply none _ _ _ h (lane h' d)).trans ?_
    rw [show (constant (F := Ideal) S16x1024 .f32 0x00000000#32) (ix2 h (lane h' d)) = 0 from Ideal.ofBits_zero_f32, zero_add]
    refine Finset.sum_congr rfl fun j _ => ?_
    congr 1
    · exact (transpose_ix2_apply _ _ _ _).trans (pay39_apply xq xk j h)
    · rw [shapeCast_self]
      exact shapeCast_1ab_ab_apply _ _ _ _
  · refine (broadcastTo_apply _ _ _ (ix3 h h' (0 : Fin 1) : S16x16x1.Idx) (fun a => match a with | ⟨0, _⟩ => rfl | ⟨1, _⟩ => rfl | ⟨2, _⟩ => rfl)).trans ?_
    show FloatOps.sitofp (F := Ideal) .f32 ((IntOp.cmpi .eq (iota .tc S16x16x1 32 [0] _ (ix3 h h' (0 : Fin 1))) (iota .tc S16x16x1 32 [1] _ (ix3 h h' (0 : Fin 1)))).setWidth 32) = _
    rw [iota_single_apply, iota_single_apply]
    exact mask_val (by norm_num) h h'

theorem pay40_apply (h : Fin 16) (d : Fin 64) : k0_pay40 (k0_pay35 xq) (k0_pay36 xk) acc0 xv (ix3 (0 : Fin 1) h d : S1x16x64.Idx)
    = ∑ j, Ideal.exp (blkScore xq xk h j - blkTop xq xk h) * xv (ix3 (0 : Fin 1) j (lane h d)) := by
  unfold k0_pay40
  rw [shapeCast_self]
  refine (shapeCast_ab_1ab_apply _ _ _ _ _).trans ?_
  refine (Ideal.multiReduction_add_single (masked xq xk xv) _ _ _ _ _).trans ?_
  have at_lift : ∀ h' : Fin 16, reduces_S16x16x64_S16x64.lift (ix2 h d) h' = (ix3 h h' d : S16x16x64.Idx) := fun h' => by
    funext a; apply Fin.ext; match a with | ⟨0, _⟩ => rfl | ⟨1, _⟩ => rfl | ⟨2, _⟩ => rfl
  have key : ∀ h' : Fin 16, masked xq xk xv (reduces_S16x16x64_S16x64.lift (ix2 h d) h') = _ := fun h' =>
    (congrArg (masked xq xk xv) (at_lift h')).trans (masked_apply xq xk xv h h' d)
  refine (Finset.sum_congr rfl fun h' _ => key h').trans ?_
  refine (Finset.sum_eq_single h ?_ ?_).trans ?_
  · intro h' _ hne
    rw [if_neg (Ne.symm hne), mul_zero]
  · exact fun hh => absurd (Finset.mem_univ _) hh
  · rw [if_pos rfl, mul_one]

/-- **The block's triple**, when every score is a real number: the state of the running softmax over the block's keys. -/
theorem block_holds (h : Fin 16) (d : Fin 64) (s : Fin 128 → ℝ) (hs : ∀ j, blkScore xq xk h j = (s j : EReal)) :
    Softmax.Holds s (fun j => xv (ix3 (0 : Fin 1) j (lane h d))) Finset.univ
      (k0_pay40 (k0_pay35 xq) (k0_pay36 xk) acc0 xv (ix3 (0 : Fin 1) h d : S1x16x64.Idx))
      (k0_pay41 (k0_pay35 xq) (k0_pay36 xk) acc0 (ix3 (0 : Fin 1) h (0 : Fin 1) : S1x16x1.Idx))
      (k0_pay42 (k0_pay35 xq) (k0_pay36 xk) acc0 (ix3 (0 : Fin 1) h (0 : Fin 1) : S1x16x1.Idx)) := by
  obtain ⟨M, hM, e⟩ := Softmax.exists_top s Finset.univ Finset.univ_nonempty
  have eM : blkTop xq xk h = M := by
    unfold blkTop
    rw [show blkScore xq xk h = fun k => (s k : EReal) from funext hs]
    exact e
  refine ⟨M, hM, ?_, ?_, ?_⟩
  · rw [pay41_apply, eM]
  · rw [pay42_apply, eM]
    exact Finset.sum_congr rfl fun j _ => by rw [hs, Softmax.exp_sub_coe]; rfl
  · rw [pay40_apply, eM]
    exact Finset.sum_congr rfl fun j _ => by rw [hs, Softmax.exp_sub_coe]; rfl

end Cert.KernelIdeal.Exchange

end
-- ==== Proof.Slices.lean ====
/- What the host hands the region: each device's own keys and values, cut out of those its column of the mesh holds,
   the heads laid side by side. -/
module

public import proofs.«01_k».proof.Proof.Block
public import Idealize.ShloMosaic.Lib.DynamicIndex
public import Idealize.ShloMosaic.Lib.StableHlo.Run

@[expose] public section

set_option maxRecDepth 16384

noncomputable section

namespace Cert.KernelIdeal.Exchange

open Idealize.ShloMosaic Idealize.ShloMosaic.ValueIdx Idealize.ShloMosaic.Pipeline
open Idealize.ShloMosaic.TcCoe Idealize.ShloMosaic.StableHlo
open Cert.KernelIdeal.Gen
open scoped BigOperators

variable {F : FTy → Type} [FloatOps F]
variable (m : (ℓ : Loc nD τ sig) → Buf (Elt F) ℓ)

/-- Where device `c`'s own keys start among those its column of the mesh holds. -/
def start (c : Dev nD) : ℕ := 128 * (4 * (c.val / 8) + c.val % 4)

theorem start_le (c : Dev nD) : start c + 128 ≤ 1024 := by revert c; decide

/-- The same as the host computes it, in words. -/
def startWord (c : Dev nD) : BitVec 32 :=
  let v := IntOp.muli (IntOp.addi (IntOp.muli (IntOp.remui .host (IntOp.divui .host (Dev.word c) 8#32) 2#32) 4#32) (IntOp.remui .host (IntOp.divui .host (Dev.word c) 1#32) 4#32)) 128#32
  Scalar.select (IntOp.cmpi .slt v 0#32) (IntOp.addi v 1024#32) v

theorem startWord_toInt : ∀ c : Dev nD, (startWord c).toInt = (start c : ℤ) := by decide +kernel

theorem slices_start (c : Dev nD) : S16x1024x16x64.Slices ![0, start c, 0, 0] S16x128x16x64 := by
  refine ⟨rfl, fun a => ?_⟩
  match a with
  | ⟨0, _⟩ => show 0 + 16 ≤ 16; decide
  | ⟨1, _⟩ => exact start_le c
  | ⟨2, _⟩ => show 0 + 16 ≤ 16; decide
  | ⟨3, _⟩ => show 0 + 64 ≤ 64; decide

set_option maxHeartbeats 2000000 in
/-- The keys the region reads. -/
theorem sliceK (c : Dev nD) : V1 m c main_v20
    = shapeCast S16x128x1024 (extractStridedSlice S16x128x16x64 ![0, start c, 0, 0] (m (c, main_arg1)) (slices_start c)) shapeCasts_S16x128x16x64_S16x128x1024 := by
  unfold V1 hostOps0
  after_results
  show shapeCast _ (Host.dynamicSlice S16x128x16x64 _ _ _) _ = _
  congr 1
  refine Host.dynamicSlice_eq_extractStridedSlice _ _ _ _ _ _ fun a => ?_
  match a with
  | ⟨0, _⟩ =>
    show BitVec.toInt ((_ : Valuation τ sig (Elt F)) (Proc.tc.devRef main_c_7) _) = _
    after_results
    rfl
  | ⟨1, _⟩ =>
    show BitVec.toInt ((_ : Valuation τ sig (Elt F)) (Proc.tc.devRef main_v14) _) = _
    after_results
    exact startWord_toInt c
  | ⟨2, _⟩ =>
    show BitVec.toInt ((_ : Valuation τ sig (Elt F)) (Proc.tc.devRef main_c_8) _) = _
    after_results
    rfl
  | ⟨3, _⟩ =>
    show BitVec.toInt ((_ : Valuation τ sig (Elt F)) (Proc.tc.devRef main_c_9) _) = _
    after_results
    rfl

set_option maxHeartbeats 2000000 in
/-- The values the region reads. -/
theorem sliceV (c : Dev nD) : V1 m c main_v21
    = shapeCast S16x128x1024 (extractStridedSlice S16x128x16x64 ![0, start c, 0, 0] (m (c, main_arg2)) (slices_start c)) shapeCasts_S16x128x16x64_S16x128x1024 := by
  unfold V1 hostOps0
  after_results
  show shapeCast _ (Host.dynamicSlice S16x128x16x64 _ _ _) _ = _
  congr 1
  refine Host.dynamicSlice_eq_extractStridedSlice _ _ _ _ _ _ fun a => ?_
  match a with
  | ⟨0, _⟩ =>
    show BitVec.toInt ((_ : Valuation τ sig (Elt F)) (Proc.tc.devRef main_c_12) _) = _
    after_results
    rfl
  | ⟨1, _⟩ =>
    show BitVec.toInt ((_ : Valuation τ sig (Elt F)) (Proc.tc.devRef main_v18) _) = _
    after_results
    exact startWord_toInt c
  | ⟨2, _⟩ =>
    show BitVec.toInt ((_ : Valuation τ sig (Elt F)) (Proc.tc.devRef main_c_13) _) = _
    after_results
    rfl
  | ⟨3, _⟩ =>
    show BitVec.toInt ((_ : Valuation τ sig (Elt F)) (Proc.tc.devRef main_c_14) _) = _
    after_results
    rfl

end Cert.KernelIdeal.Exchange

end
-- ==== Proof.Windows.lean ====
/- The region's blocks read at an index of the program's arguments. -/
module

public import proofs.«01_k».proof.Proof.Slices
public import Idealize.ShloMosaic.Lib.Pipeline.ValueKit

@[expose] public section

set_option maxRecDepth 16384

noncomputable section

namespace Cert.KernelIdeal.Exchange

open Idealize.ShloMosaic hiding ix1 ix2 ix3 ix4
open Idealize.ShloMosaic.ValueIdx Idealize.ShloMosaic.Pipeline
open Idealize.ShloMosaic.TcCoe Idealize.ShloMosaic.StableHlo
open Cert.KernelIdeal.Gen
open scoped BigOperators

variable {F : FTy → Type} [FloatOps F]
variable (m : (ℓ : Loc nD τ sig) → Buf (Elt F) ℓ)

theorem own_apply (x : S16x1024x16x64.Idx → Elt F .bf16) (c : Dev nD) (b h : Fin 16) (j : Fin 128) (d : Fin 64) :
    shapeCast S16x128x1024 (extractStridedSlice S16x128x16x64 ![0, start c, 0, 0] x (slices_start c)) shapeCasts_S16x128x16x64_S16x128x1024 (ix3 b j (lane h d))
      = x (ix4 b (⟨start c + j.val, by have := start_le c; omega⟩ : Fin 1024) h d) := by
  refine (shapeCast_apply _ _ _ (ix4 b j h d : S16x128x16x64.Idx) ?_).trans ?_
  · rw [Shape.rowMajor_val_three, Shape.rowMajor_val_four]
    show ((b.val * 128 + j.val) * 16 + h.val) * 64 + d.val = (b.val * 128 + j.val) * 1024 + (64 * h.val + d.val)
    ring
  · refine extractStridedSlice_apply _ _ _ _ _ fun a => ?_
    match a with
    | ⟨0, _⟩ => exact (Nat.zero_add _).symm
    | ⟨1, _⟩ => rfl
    | ⟨2, _⟩ => exact (Nat.zero_add _).symm
    | ⟨3, _⟩ => exact (Nat.zero_add _).symm

theorem pt_coord : ∀ b : Fin 16, (BitVec.ofNat 32 (grid0.coords (pt b) 0).val).toNat = b.val := by decide

theorem index_q (b : Fin 16) : win0_0.index (pt b) = ![b.val, 0, 0, 0] := by
  show cc0_transform_0 (grid0.coords (pt b)) = _
  unfold cc0_transform_0
  dsimp only
  rw [pt_coord]; rfl
theorem index_k (b : Fin 16) : win0_1.index (pt b) = ![b.val, 0, 0] := by
  show cc0_transform_1 (grid0.coords (pt b)) = _
  unfold cc0_transform_1
  dsimp only
  rw [pt_coord]; rfl
theorem index_v (b : Fin 16) : win0_2.index (pt b) = ![b.val, 0, 0] := by
  show cc0_transform_2 (grid0.coords (pt b)) = _
  unfold cc0_transform_2
  dsimp only
  rw [pt_coord]; rfl

theorem emb_q (b h : Fin 16) (d : Fin 64) :
    (((cfg0.win 0).blk (pt b)).view.emb (ix4 (0 : Fin 1) (0 : Fin 1) h d) : S16x1x16x64.Idx) = ix4 b (0 : Fin 1) h d := by
  funext a
  apply Fin.ext
  match a with
  | ⟨0, _⟩ => blk_simp [index_q]
  | ⟨1, _⟩ => blk_simp [index_q]
  | ⟨2, _⟩ => blk_simp [index_q]
  | ⟨3, _⟩ => blk_simp [index_q]

theorem qBlk_apply (c : Dev nD) (b h : Fin 16) (d : Fin 64) :
    qBlk m c (pt b) (ix4 (0 : Fin 1) (0 : Fin 1) h d) = m (c, main_arg0) (ix4 b (0 : Fin 1) h d) := by
  show V1 m c main_arg0 (((cfg0.win 0).blk (pt b)).view.emb _) = _
  rw [V1_of m c main_arg0 (by decide)]
  exact congrArg (m (c, main_arg0)) (emb_q b h d)

theorem emb_k (b : Fin 16) (j : Fin 128) (n : Fin 1024) :
    (((cfg0.win 1).blk (pt b)).view.emb (ix3 (0 : Fin 1) j n) : S16x128x1024.Idx) = ix3 b j n := by
  funext a
  apply Fin.ext
  match a with
  | ⟨0, _⟩ => blk_simp [index_k]
  | ⟨1, _⟩ => blk_simp [index_k]
  | ⟨2, _⟩ => blk_simp [index_k]

theorem kBlk_apply (c : Dev nD) (b h : Fin 16) (j : Fin 128) (d : Fin 64) :
    kBlk m c (pt b) (ix3 (0 : Fin 1) j (lane h d)) = m (c, main_arg1) (ix4 b (⟨start c + j.val, by have := start_le c; omega⟩ : Fin 1024) h d) := by
  show V1 m c main_v20 (((cfg0.win 1).blk (pt b)).view.emb _) = _
  rw [sliceK]
  exact (congrArg _ (emb_k b j (lane h d))).trans (own_apply _ c b h j d)

theorem emb_v (b : Fin 16) (j : Fin 128) (n : Fin 1024) :
    (((cfg0.win 2).blk (pt b)).view.emb (ix3 (0 : Fin 1) j n) : S16x128x1024.Idx) = ix3 b j n := by
  funext a
  apply Fin.ext
  match a with
  | ⟨0, _⟩ => blk_simp [index_v]
  | ⟨1, _⟩ => blk_simp [index_v]
  | ⟨2, _⟩ => blk_simp [index_v]

theorem vBlk_apply (c : Dev nD) (b h : Fin 16) (j : Fin 128) (d : Fin 64) :
    vBlk m c (pt b) (ix3 (0 : Fin 1) j (lane h d)) = m (c, main_arg2) (ix4 b (⟨start c + j.val, by have := start_le c; omega⟩ : Fin 1024) h d) := by
  show V1 m c main_v21 (((cfg0.win 2).blk (pt b)).view.emb _) = _
  rw [sliceV]
  exact (congrArg _ (emb_v b j (lane h d))).trans (own_apply _ c b h j d)

end Cert.KernelIdeal.Exchange

end
-- ==== Proof.Reference.lean ====
/- The reference's result read at an index: the values weighted by the normalised exponentials of the scores. -/
module

public import proofs.«01_k».proof.Proof.Gen.ReferenceIdeal.Run
public import proofs.«01_k».proof.Proof.Softmax
public import Idealize.ShloMosaic.Lib.ValueIdx
public import Idealize.ShloMosaic.Lib.IdealHost
public import Idealize.ShloMosaic.Lib.KernelVsHost
public import Idealize.ShloMosaic.Lib.Pipeline.Value
public import Idealize.ShloMosaic.PureOps.Ideal.Laws

@[expose] public section

set_option maxRecDepth 16384

noncomputable section

namespace Cert.ReferenceIdeal.Attend

open Idealize.ShloMosaic Idealize.ShloMosaic.ValueIdx Idealize.ShloMosaic.Pipeline
open Cert.ReferenceIdeal Cert.ReferenceIdeal.Gen
open scoped BigOperators

/-- The reference's scale, as an f32 word. -/
theorem eighth_f32 : Ideal.ofBits .f32 0x3E000000#32 = (((1 / 8 : ℝ)) : EReal) := by
  simp [Ideal.ofBits, Ideal.ieee, -EReal.coe_mul]; norm_num

variable (Q : FVec Ideal S16x1x16x64 .bf16) (K V : FVec Ideal S16x2048x16x64 .bf16)

/-- The scores, scaled. -/
def scores : FVec Ideal S16x16x1x2048 .f32 :=
  mulf (Host.dotGeneral dot_S16x1x16x64_S16x2048x16x64_S16x16x1x2048_3_3_1_1_02_02 none (extf .f32 Q bitsLt_bf16_f32) (extf .f32 K bitsLt_bf16_f32))
    (broadcastInDim S16x16x1x2048 ![] bcast_S_S16x16x1x2048 (constant S_ .f32 0x3E000000#32))

/-- The exponentials of the scores less the greatest one. -/
def weights (S : FVec Ideal S16x16x1x2048 .f32) : FVec Ideal S16x16x1x2048 .f32 :=
  Host.exp (subf S (broadcastInDim S16x16x1x2048 ![0, 1, 2, 3] bcast_S16x16x1x1_S16x16x1x2048_0_1_2_3 (broadcastInDim S16x16x1x1 ![0, 1, 2] bcast_S16x16x1_S16x16x1x1_0_1_2
    (Host.reduce FloatOps.maximumf S (constant S_ .f32 0xFF800000#32) reducesTo_S16x16x1x2048_S16x16x1_d3 h_S_))))

/-- The weights over their sum. -/
def normalised (E : FVec Ideal S16x16x1x2048 .f32) : FVec Ideal S16x16x1x2048 .f32 :=
  Host.divf E (broadcastInDim S16x16x1x2048 ![0, 1, 2, 3] bcast_S16x16x1x1_S16x16x1x2048_0_1_2_3 (broadcastInDim S16x16x1x1 ![0, 1, 2] bcast_S16x16x1_S16x16x1x1_0_1_2
    (Host.reduceAdd E (constant S_ .f32 0x00000000#32) reducesTo_S16x16x1x2048_S16x16x1_d3 h_S_)))

/-- The reference's result. -/
def result : FVec Ideal S16x1x16x64 .f32 :=
  transpose S16x1x16x64 [0, 3, 1, 2] (Host.dotGeneral dot_S16x2048x16x64_S16x16x1x2048_S16x16x64x1_1_3_3_2_02_01 none (extf .f32 V bitsLt_bf16_f32)
    (normalised (weights (scores Q K)))) transposes_S16x16x64x1_S16x1x16x64_0_3_1_2

theorem scores_apply (b h : Fin 16) (k : Fin 2048) : scores Q K (ix4 b h (0 : Fin 1) k : S16x16x1x2048.Idx)
    = (∑ d : Fin 64, Q (ix4 b (0 : Fin 1) h d) * K (ix4 b k h d)) * ((1 / 8 : ℝ) : EReal) := by
  unfold scores
  rw [mulf_apply]
  congr 1
  · simp only [Host.dotGeneral]
    rw [Ideal.dotGeneral_apply]
    let D := dot_S16x1x16x64_S16x2048x16x64_S16x16x1x2048_3_3_1_1_02_02
    rw [← Equiv.sum_comp (contrEquiv1 D 64 rfl rfl).symm]
    refine Finset.sum_congr rfl fun d _ => ?_
    have hd := contrEquiv1_symm_val D 64 rfl rfl d
    have el : D.lhsIdx (ix4 b h (0 : Fin 1) k) ((contrEquiv1 D 64 rfl rfl).symm d) = ix4 b (0 : Fin 1) h d := by
      funext a; apply Fin.ext
      match a with
      | ⟨0, _⟩ => rfl
      | ⟨1, _⟩ => rfl
      | ⟨2, _⟩ => rfl
      | ⟨3, _⟩ => exact hd
    have er : D.rhsIdx (ix4 b h (0 : Fin 1) k) ((contrEquiv1 D 64 rfl rfl).symm d) = ix4 b k h d := by
      funext a; apply Fin.ext
      match a with
      | ⟨0, _⟩ => rfl
      | ⟨1, _⟩ => rfl
      | ⟨2, _⟩ => rfl
      | ⟨3, _⟩ => exact hd
    rw [el, er]; rfl
  · exact (broadcastInDim_scalar_apply _ _ _).trans eighth_f32

/-- A row's value broadcast back along the keys. -/
theorem row_apply (x : S16x16x1.Idx → EReal) (b h : Fin 16) (k : Fin 2048) :
    broadcastInDim S16x16x1x2048 ![0, 1, 2, 3] bcast_S16x16x1x1_S16x16x1x2048_0_1_2_3 (broadcastInDim S16x16x1x1 ![0, 1, 2] bcast_S16x16x1_S16x16x1x1_0_1_2 x)
      (ix4 b h (0 : Fin 1) k : S16x16x1x2048.Idx) = x (ix3 b h (0 : Fin 1)) := by
  refine (broadcastInDim_apply _ _ _ _ (ix4 b h (0 : Fin 1) (0 : Fin 1) : S16x16x1x1.Idx) fun a => match a with | ⟨0, _⟩ => rfl | ⟨1, _⟩ => rfl | ⟨2, _⟩ => rfl | ⟨3, _⟩ => rfl).trans ?_
  exact broadcastInDim_apply _ _ _ _ (ix3 b h (0 : Fin 1) : S16x16x1.Idx) fun a => match a with | ⟨0, _⟩ => rfl | ⟨1, _⟩ => rfl | ⟨2, _⟩ => rfl

/-- Reducing the last axis of the scores' shape. -/
theorem reduces : S16x16x1x2048.Reduces [3] S16x16x1 := by decide

theorem at_lift (b h : Fin 16) (k : Fin 2048) : reduces.lift (ix3 b h (0 : Fin 1)) k = (ix4 b h (0 : Fin 1) k : S16x16x1x2048.Idx) := by
  funext a; apply Fin.ext; match a with | ⟨0, _⟩ => rfl | ⟨1, _⟩ => rfl | ⟨2, _⟩ => rfl | ⟨3, _⟩ => rfl

theorem top_apply (S : FVec Ideal S16x16x1x2048 .f32) (b h : Fin 16) :
    Host.reduce FloatOps.maximumf S (constant S_ .f32 0xFF800000#32) reducesTo_S16x16x1x2048_S16x16x1_d3 h_S_ (ix3 b h (0 : Fin 1))
      = Finset.univ.fold max ⊥ fun k : Fin 2048 => S (ix4 b h (0 : Fin 1) k) := by
  rw [hostReduce_maximumf_eq_multiReduction S 0xFF800000#32 _ _ reduces (.inl rfl) rfl]
  refine (Ideal.multiReduction_maximumf_single _ _ _ _ _ _).trans ?_
  rw [show FloatOps.ofBits (F := Ideal) .f32 0xFF800000#32 = ⊥ from Softmax.bot_f32]
  congr 1
  funext k
  exact congrArg S (at_lift b h k)

theorem sum_apply (E : FVec Ideal S16x16x1x2048 .f32) (b h : Fin 16) :
    Host.reduceAdd E (constant S_ .f32 0x00000000#32) reducesTo_S16x16x1x2048_S16x16x1_d3 h_S_ (ix3 b h (0 : Fin 1))
      = ∑ k : Fin 2048, E (ix4 b h (0 : Fin 1) k) := by
  rw [hostReduceAdd_apply, Ideal.hostReduceAdd_single _ reduces]
  rw [show (constant (F := Ideal) S_ .f32 0x00000000#32) (Shape.Idx.first h_S_) = 0 from Ideal.ofBits_zero_f32, zero_add]
  exact Finset.sum_congr rfl fun k _ => congrArg E (at_lift b h k)

theorem result_apply (b h : Fin 16) (d : Fin 64) : result Q K V (ix4 b (0 : Fin 1) h d : S16x1x16x64.Idx)
    = ∑ k : Fin 2048, V (ix4 b k h d) * normalised (weights (scores Q K)) (ix4 b h (0 : Fin 1) k) := by
  unfold result
  refine (transpose_apply _ _ _ _ (ix4 b h d (0 : Fin 1) : S16x16x64x1.Idx) fun c => match c with | ⟨0, _⟩ => rfl | ⟨1, _⟩ => rfl | ⟨2, _⟩ => rfl | ⟨3, _⟩ => rfl).trans ?_
  simp only [Host.dotGeneral]
  rw [Ideal.dotGeneral_apply]
  let D := dot_S16x2048x16x64_S16x16x1x2048_S16x16x64x1_1_3_3_2_02_01
  rw [← Equiv.sum_comp (contrEquiv1 D 2048 rfl rfl).symm]
  refine Finset.sum_congr rfl fun k _ => ?_
  have hk := contrEquiv1_symm_val D 2048 rfl rfl k
  have el : D.lhsIdx (ix4 b h d (0 : Fin 1)) ((contrEquiv1 D 2048 rfl rfl).symm k) = ix4 b k h d := by
    funext a; apply Fin.ext
    match a with
    | ⟨0, _⟩ => rfl
    | ⟨1, _⟩ => exact hk
    | ⟨2, _⟩ => rfl
    | ⟨3, _⟩ => rfl
  have er : D.rhsIdx (ix4 b h d (0 : Fin 1)) ((contrEquiv1 D 2048 rfl rfl).symm k) = ix4 b h (0 : Fin 1) k := by
    funext a; apply Fin.ext
    match a with
    | ⟨0, _⟩ => rfl
    | ⟨1, _⟩ => rfl
    | ⟨2, _⟩ => rfl
    | ⟨3, _⟩ => exact hk
  rw [el, er]; rfl

/-- **The reference's result**, when every score of the row is a real number. -/
theorem result_of_real (b h : Fin 16) (d : Fin 64) (s : Fin 2048 → ℝ)
    (hs : ∀ k, (∑ d : Fin 64, Q (ix4 b (0 : Fin 1) h d) * K (ix4 b k h d)) * ((1 / 8 : ℝ) : EReal) = (s k : EReal)) :
    ∃ M : ℝ, Softmax.Top s Finset.univ M ∧ result Q K V (ix4 b (0 : Fin 1) h d : S16x1x16x64.Idx)
      = ∑ k : Fin 2048, V (ix4 b k h d) * Ideal.div (Softmax.wt s M k) (∑ k, Softmax.wt s M k) := by
  obtain ⟨M, hM, e⟩ := Softmax.exists_top s Finset.univ Finset.univ_nonempty
  refine ⟨M, hM, (result_apply Q K V b h d).trans (Finset.sum_congr rfl fun k _ => congrArg _ ?_)⟩
  have hw : ∀ k : Fin 2048, weights (scores Q K) (ix4 b h (0 : Fin 1) k) = Softmax.wt s M k := fun k => by
    unfold weights
    show Ideal.exp (_ - _) = _
    rw [row_apply, top_apply, scores_apply, hs]
    have : (fun k : Fin 2048 => scores Q K (ix4 b h (0 : Fin 1) k)) = fun k => (s k : EReal) :=
      funext fun k => (scores_apply Q K b h k).trans (hs k)
    rw [this, e, Softmax.exp_sub_coe]; rfl
  unfold normalised
  rw [hostDivf_apply, row_apply, sum_apply, hw]
  exact congrArg (Ideal.div _) (Finset.sum_congr rfl fun k _ => hw k)

end Cert.ReferenceIdeal.Attend

end
-- ==== Proof.Value.lean ====
/- What every device writes is the reference's result: the triples of disjoint sets of keys combine, stage by stage,
   to the triple of all keys, however the keys are dealt out to the devices. -/
module

public import proofs.«01_k».proof.Proof.Windows
public import proofs.«01_k».proof.Proof.Reference
public import Idealize.ShloMosaic.Lib.Layout
public import Mathlib.Data.Fintype.EquivFin

@[expose] public section

set_option maxRecDepth 16384

noncomputable section

namespace Cert.KernelIdeal.Exchange

open Idealize.ShloMosaic hiding ix1 ix2 ix3 ix4 eq_ix4
open Idealize.ShloMosaic.ValueIdx Idealize.ShloMosaic.Pipeline
open Idealize.ShloMosaic.TcCoe
open Cert.KernelIdeal.Gen
open scoped BigOperators

/-! ## The keys -/

/-- A device's number within the key blocks and the key's number within the block, as the key's number of all. -/
def key (p : Dev nD × Fin 128) : Fin 2048 :=
  ⟨1024 * (p.1.val / 4 % 2) + (start p.1 + p.2.val), by have := start_le p.1; omega⟩

theorem block_injective : ∀ c c' : Dev nD,
    8 * (c.val / 4 % 2) + (4 * (c.val / 8) + c.val % 4) = 8 * (c'.val / 4 % 2) + (4 * (c'.val / 8) + c'.val % 4) → c = c' := by decide +kernel

theorem key_injective : Function.Injective key := by
  rintro ⟨c, j⟩ ⟨c', j'⟩ h
  have hv : 1024 * (c.val / 4 % 2) + (128 * (4 * (c.val / 8) + c.val % 4) + j.val)
      = 1024 * (c'.val / 4 % 2) + (128 * (4 * (c'.val / 8) + c'.val % 4) + j'.val) := congrArg Fin.val h
  have hj := j.isLt
  have hj' := j'.isLt
  obtain rfl := block_injective c c' (by omega)
  obtain rfl : j = j' := Fin.ext (by omega)
  rfl

/-- Every key is exactly one device's own. -/
def keyEquiv : Dev nD × Fin 128 ≃ Fin 2048 :=
  Equiv.ofBijective key ((Fintype.bijective_iff_injective_and_card key).mpr ⟨key_injective, by
    rw [Fintype.card_prod]; rfl⟩)

theorem keyEquiv_apply (p : Dev nD × Fin 128) : keyEquiv p = key p := rfl

/-! ## The sets of devices whose keys a triple covers -/

/-- The devices whose keys device `c`'s triple covers after `s` stages. -/
def reach : ℕ → Dev nD → Finset (Dev nD)
  | 0, c => {c}
  | s + 1, c => reach s c ∪ reach s (pr (stg s) c)

theorem reach_disjoint : ∀ s : Fin 4, ∀ c : Dev nD, Disjoint (reach s.val c) (reach s.val (pr (stg s.val) c)) := by decide +kernel

theorem reach_all : ∀ c : Dev nD, reach 4 c = Finset.univ := by decide +kernel

/-! ## The operations on triples at an index -/

variable (a a' : Trip Ideal) (b h : Fin 16) (d : Fin 64)

/-- The greatest score, the sum and a weighted sum of a triple, at a row and a head. -/
abbrev oAt (a : Trip Ideal) : EReal := (a 0 : FVec Ideal S16x16x64 .f32) (ix3 b h d)
abbrev mAt (a : Trip Ideal) : EReal := (a 1 : FVec Ideal S16x16x1 .f32) (ix3 b h (0 : Fin 1))
abbrev lAt (a : Trip Ideal) : EReal := (a 2 : FVec Ideal S16x16x1 .f32) (ix3 b h (0 : Fin 1))

theorem spread_apply (x : FVec Ideal S16x16x1 .f32) : broadcastTo S16x16x64 x broadcasts_S16x16x1_S16x16x64 (ix3 b h d) = x (ix3 b h (0 : Fin 1)) :=
  broadcastTo_apply _ _ _ (ix3 b h (0 : Fin 1) : S16x16x1.Idx) fun e => match e with | ⟨0, _⟩ => rfl | ⟨1, _⟩ => rfl | ⟨2, _⟩ => rfl

theorem comb_m : mAt b h (comb a a') = max (mAt b h a) (mAt b h a') := rfl

theorem comb_l : lAt b h (comb a a')
    = Ideal.exp (mAt b h a - max (mAt b h a) (mAt b h a')) * lAt b h a + Ideal.exp (mAt b h a' - max (mAt b h a) (mAt b h a')) * lAt b h a' := rfl

theorem comb_o : oAt b h d (comb a a')
    = Ideal.exp (mAt b h a - max (mAt b h a) (mAt b h a')) * oAt b h d a + Ideal.exp (mAt b h a' - max (mAt b h a) (mAt b h a')) * oAt b h d a' := by
  show addf (mulf _ _) (mulf _ _) _ = _
  rw [addf_apply, mulf_apply, mulf_apply, spread_apply, spread_apply]
  rfl

theorem outOf_apply : outOf a (ix4 b (0 : Fin 1) h d : S16x1x16x64.Idx) = Ideal.div (oAt b h d a) (lAt b h a) := by
  unfold outOf
  refine (shapeCast_apply _ _ _ (ix3 b h d : S16x16x64.Idx) ?_).trans ?_
  · rw [Shape.rowMajor_val_three, Shape.rowMajor_val_four]
    show (b.val * 16 + h.val) * 64 + d.val = ((b.val * 1 + 0) * 16 + h.val) * 64 + d.val
    ring
  · rw [divf_apply, spread_apply]

/-! ## The stages -/

/-- The triple of one device's keys among all keys. -/
theorem holds_own {s : Dev nD × Fin 128 → ℝ} {v : Dev nD × Fin 128 → EReal} {c : Dev nD} {o M l : EReal}
    (hc : Softmax.Holds (fun j => s (c, j)) (fun j => v (c, j)) Finset.univ o M l) :
    Softmax.Holds s v ({c} ×ˢ Finset.univ) o M l := by
  obtain ⟨M, ⟨⟨j, -, e⟩, hle⟩, rfl, rfl, rfl⟩ := hc
  refine ⟨M, ⟨⟨(c, j), Finset.mem_product.mpr ⟨Finset.mem_singleton_self _, Finset.mem_univ _⟩, e⟩, ?_⟩, rfl, ?_, ?_⟩
  · rintro ⟨c', j'⟩ hm
    obtain rfl := Finset.mem_singleton.mp (Finset.mem_product.mp hm).1
    exact hle j' (Finset.mem_univ _)
  · rw [Finset.sum_product, Finset.sum_singleton]; rfl
  · rw [Finset.sum_product, Finset.sum_singleton]; rfl

/-- After `n` stages a device's triple is that of the keys of the devices it has reached. -/
theorem stages (A : Dev nD → Trip Ideal) (s : Dev nD × Fin 128 → ℝ) (v : Dev nD × Fin 128 → EReal)
    (hA : ∀ c, Softmax.Holds s v ({c} ×ˢ Finset.univ) (oAt b h d (A c)) (mAt b h (A c)) (lAt b h (A c))) :
    ∀ n ≤ 4, ∀ c, Softmax.Holds s v (reach n c ×ˢ Finset.univ) (oAt b h d (st A n c)) (mAt b h (st A n c)) (lAt b h (st A n c))
  | 0, _, c => hA c
  | n + 1, hn, c => by
    have h1 := stages A s v hA n (by omega) c
    have h2 := stages A s v hA n (by omega) (pr (stg n) c)
    have hd : Disjoint (reach n c ×ˢ (Finset.univ : Finset (Fin 128))) (reach n (pr (stg n) c) ×ˢ Finset.univ) :=
      Finset.disjoint_product.mpr (Or.inl (reach_disjoint ⟨n, by omega⟩ c))
    have hx := h1.combine h2 hd
    rw [← Finset.union_product] at hx
    show Softmax.Holds s v (reach (n + 1) c ×ˢ Finset.univ) (oAt b h d (comb (st A n c) (st A n (pr (stg n) c))))
      (mAt b h (comb (st A n c) (st A n (pr (stg n) c)))) (lAt b h (comb (st A n c) (st A n (pr (stg n) c))))
    rw [comb_o, comb_m, comb_l]
    exact hx

/-! ## A device's own triple -/

section Own

variable (m : (ℓ : Loc nD τ sig) → Buf (Elt Ideal) ℓ)
variable (Q : S16x1x16x64.Idx → EReal) (K V : (⟨4, ![16, 2048, 16, 64]⟩ : Shape).Idx → EReal)

theorem column : ∀ c : Dev nD, Layout.meshLin [2, 2, 4] c.val [1] = c.val / 4 % 2 := by decide

/-- A device's block of an array cut along the keys, read at one of its own keys. -/
theorem block_apply (X : (⟨4, ![16, 2048, 16, 64]⟩ : Shape).Idx → EReal) (c : Dev nD) (j : Fin 128) :
    Layout.blockN ⟨4, ![16, 1024, 16, 64]⟩ ⟨4, ![16, 2048, 16, 64]⟩ (Layout.meshBlock [2, 2, 4] ![[], [1], [], []] c) X
      (by decide) (ix4 b (⟨start c + j.val, by have := start_le c; omega⟩ : Fin 1024) h d) = X (ix4 b (key (c, j)) h d) := by
  rw [Layout.blockN_apply]
  refine congrArg X (funext fun e => Fin.ext ?_)
  match e with
  | ⟨0, _⟩ => exact (congrArg (· + b.val) (Nat.zero_mul 16)).trans (Nat.zero_add _)
  | ⟨1, _⟩ =>
    show Layout.meshLin [2, 2, 4] c.val [1] * 1024 + (start c + j.val) = 1024 * (c.val / 4 % 2) + (start c + j.val)
    rw [column, Nat.mul_comm]
  | ⟨2, _⟩ => exact (congrArg (· + h.val) (Nat.zero_mul 16)).trans (Nat.zero_add _)
  | ⟨3, _⟩ => exact (congrArg (· + d.val) (Nat.zero_mul 64)).trans (Nat.zero_add _)

/-- The devices' arguments are the whole arrays, the keys and values cut along the mesh's columns. -/
def Laid : Prop := ∀ c : Dev nD,
  m (c, main_arg0) = Q
  ∧ m (c, main_arg1) = Layout.blockN ⟨4, ![16, 1024, 16, 64]⟩ ⟨4, ![16, 2048, 16, 64]⟩ (Layout.meshBlock [2, 2, 4] ![[], [1], [], []] c) K
  ∧ m (c, main_arg2) = Layout.blockN ⟨4, ![16, 1024, 16, 64]⟩ ⟨4, ![16, 2048, 16, 64]⟩ (Layout.meshBlock [2, 2, 4] ![[], [1], [], []] c) V

variable {m Q K V}

/-- A row's score of a key, from real queries and keys. -/
def score (q : S16x1x16x64.Idx → ℝ) (k : (⟨4, ![16, 2048, 16, 64]⟩ : Shape).Idx → ℝ) (n : Fin 2048) : ℝ :=
  (∑ d : Fin 64, q (ix4 b (0 : Fin 1) h d) * k (ix4 b n h d)) * (1 / 8)

theorem own_holds (hm : Laid m Q K V) (q : S16x1x16x64.Idx → ℝ) (k : (⟨4, ![16, 2048, 16, 64]⟩ : Shape).Idx → ℝ)
    (hq : ∀ i, Q i = (q i : EReal)) (hk : ∀ i, K i = (k i : EReal)) (c : Dev nD) :
    Softmax.Holds (fun j => score b h q k (key (c, j))) (fun j => V (ix4 b (key (c, j)) h d)) Finset.univ
      (oAt b h d (ownT m c)) (mAt b h (ownT m c)) (lAt b h (ownT m c)) := by
  obtain ⟨e0, e1, e2⟩ := hm c
  have hs : ∀ j : Fin 128, blkScore (qBlk m c (pt b)) (kBlk m c (pt b)) h j = (score b h q k (key (c, j)) : EReal) := by
    intro j
    unfold blkScore score
    rw [Finset.sum_mul, Softmax.coe_sum]
    refine Finset.sum_congr rfl fun d _ => ?_
    rw [qBlk_apply, kBlk_apply, e0, e1]
    refine (congrArg₂ (fun x y : EReal => x * (y * ((1 / 8 : ℝ) : EReal))) ((block_apply b h d K c j).trans (hk _)) (hq _)).trans ?_
    rw [← EReal.coe_mul, ← EReal.coe_mul]
    congr 1; ring
  have hb := block_holds (qBlk m c (pt b)) (kBlk m c (pt b)) (vBlk m c (pt b)) h d _ hs
  have hv : (fun j => vBlk m c (pt b) (ix3 (0 : Fin 1) j (lane h d))) = fun j => V (ix4 b (key (c, j)) h d) := by
    funext j
    rw [vBlk_apply, e2]
    exact block_apply b h d V c j
  rw [hv] at hb
  exact hb

/-- **Every device's result is the reference's**, the queries and keys being real numbers. -/
theorem outV_eq (hm : Laid m Q K V) (hQ : ∀ i, ∃ r : ℝ, Q i = (r : EReal)) (hK : ∀ i, ∃ r : ℝ, K i = (r : EReal)) (c : Dev nD) :
    outV m c = Cert.ReferenceIdeal.Attend.result Q K V := by
  choose q hq using hQ
  choose k hk using hK
  funext y
  obtain ⟨b, u, h, d, rfl⟩ : ∃ (b : Fin 16) (u : Fin 1) (h : Fin 16) (d : Fin 64), y = ix4 b u h d := ⟨y 0, y 1, y 2, y 3, eq_ix4 y⟩
  obtain rfl : u = 0 := Subsingleton.elim _ _
  obtain ⟨M, hM, e⟩ := Cert.ReferenceIdeal.Attend.result_of_real Q K V b h d (score b h q k) fun n => by
    unfold score
    rw [EReal.coe_mul, Softmax.coe_sum]
    congr 1
    exact Finset.sum_congr rfl fun d _ => by rw [hq, hk, EReal.coe_mul]
  refine Eq.trans ?_ e.symm
  refine (outOf_apply _ b h d).trans ?_
  have hst := stages b h d (ownT m) (fun p => score b h q k (key p)) (fun p => V (ix4 b (key p) h d))
    (fun c => holds_own (own_holds b h d hm q k hq hk c)) 4 le_rfl c
  rw [reach_all, Finset.univ_product_univ] at hst
  exact Softmax.Holds.div keyEquiv (s := score b h q k) (v := fun n => V (ix4 b n h d)) hst hM

end Own

end Cert.KernelIdeal.Exchange

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The side conditions of the precondition on one device's blocks. -/
theorem finite_facts : Cert.Pre_finite_KernelIdeal.Facts := ⟨by decide, by decide, by decide⟩

/-- The side conditions of the precondition on the whole arrays. -/
theorem finite_facts_whole : Cert.Pre_finite_ReferenceIdeal.Facts := ⟨by decide, by decide, by decide⟩

/-- The frame of the kernel's text over any float values. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F))
      (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
        ∧ r.2.sem = fun _ => 0) :=
  (θ_run Cert.KernelIdeal.defs _ _).mono (fun _ h => ⟨fun c => (h.1 c).2, h.2⟩)
    (Cert.KernelIdeal.Exchange.run_main (F := F) m ρ)

/-- The two texts' bodies are the same function of the label and its argument. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- Hence so are their procedures. -/
theorem defs_eq : Cert.Kernel.defs (F := Bits) = Cert.KernelIdeal.defs (F := Bits) :=
  congrArg (Pipeline.defs (Cert.Kernel.pcfgs (F := Bits))) bodies_eq

/-- The kernel over the machine's floats: its text is the idealized kernel's. -/
theorem frame_kernel : Cert.quiescent_Kernel := by
  intro m ρ _
  rw [defs_eq]
  exact frame_any (F := Bits) m ρ

/-- The kernel over the extended reals. -/
theorem frame_kernelIdeal : Cert.quiescent_KernelIdeal := fun m ρ _ => frame_any (F := Ideal) m ρ

/-- The reference: host operations alone, and no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- A number whose absolute value is below infinity is real. -/
theorem real_of_lt {x : EReal} (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  have hl : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  induction x with
  | bot => exact absurd hl (by simp)
  | coe r => exact ⟨r, rfl⟩
  | top => exact absurd hl (by simp)

/-- **Every device's result is the whole attention of the reference.** -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := finite_facts) := by
  intro m g m' g' hp hm
  let Q := m' (((0 : Dev Cert.ReferenceIdeal.nD).tc : Thread Cert.ReferenceIdeal.nD Cert.ReferenceIdeal.τ).loc Cert.ReferenceIdeal.main_arg0)
  let K := m' (((0 : Dev Cert.ReferenceIdeal.nD).tc : Thread Cert.ReferenceIdeal.nD Cert.ReferenceIdeal.τ).loc Cert.ReferenceIdeal.main_arg1)
  let V := m' (((0 : Dev Cert.ReferenceIdeal.nD).tc : Thread Cert.ReferenceIdeal.nD Cert.ReferenceIdeal.τ).loc Cert.ReferenceIdeal.main_arg2)
  have hl : Cert.KernelIdeal.Exchange.Laid m Q K V := hm
  have hQ : ∀ i, ∃ r : ℝ, Q i = (r : EReal) := by
    intro i
    rw [← (hl 0).1]
    exact real_of_lt (congrFun (hp 0).1 i)
  have hK : ∀ i, ∃ r : ℝ, K i = (r : EReal) := by
    intro i
    obtain ⟨b, n, h, d, rfl⟩ : ∃ (b : Fin 16) (n : Fin 2048) (h : Fin 16) (d : Fin 64), i = ValueIdx.ix4 b n h d :=
      ⟨i 0, i 1, i 2, i 3, ValueIdx.eq_ix4 i⟩
    obtain ⟨⟨c, j⟩, rfl⟩ := Cert.KernelIdeal.Exchange.keyEquiv.surjective n
    rw [Cert.KernelIdeal.Exchange.keyEquiv_apply, ← Cert.KernelIdeal.Exchange.block_apply b h d K c j, ← (hl c).2.1]
    exact real_of_lt (congrFun (hp c).2 _)
  refine ⟨Cert.ReferenceIdeal.Attend.result Q K V, ?_, ?_⟩
  · refine (θ_run Cert.KernelIdeal.defs _ _).mono (fun r h c => ?_) (Cert.KernelIdeal.Exchange.run_main (F := Ideal) m g)
    exact ⟨(h.1 c).1.trans (Cert.KernelIdeal.Exchange.outV_eq hl hQ hK c), (h.1 c).2⟩
  · refine (θ_run Cert.ReferenceIdeal.defs _ _).mono (fun r h => ?_) (Cert.ReferenceIdeal.Value.run (F := Ideal) m' g')
    exact ⟨(h 0).1, (h 0).2⟩

theorem claim : Cert.Claim :=
  ⟨Cert.Kernel.Gen.facts, Cert.KernelIdeal.Gen.facts, Cert.ReferenceIdeal.Gen.facts, finite_facts,
    finite_facts_whole, frame_kernel, frame_kernelIdeal, fun m ρ _ => frame_kernelIdeal m ρ trivial,
    frame_reference, fun m ρ _ => frame_reference m ρ trivial, trivial, algebraic⟩

end Cert.Proof

end
